-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_setup [hPre_setup : Cert.Pre_setup.Facts] (m : (ℓ : Loc Cert.KernelIdeal.nD Cert.KernelIdeal.τ Cert.KernelIdeal.sig) → Buf (Elt Ideal) ℓ) : Prop :=
  ∀ c : Dev Cert.KernelIdeal.nD,
    (Cert.Pre_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).1 = (fun _ => 1#1)
    ∧ (Cert.Pre_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.1 = (fun _ => 1#1)
    ∧ (Cert.Pre_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.1 = (fun _ => 1#1)
    ∧ (Cert.Pre_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.1 = (fun _ => 1#1)
    ∧ (Cert.Pre_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.1 = (fun _ => 1#1)
    ∧ (Cert.Pre_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.1 = (fun _ => 1#1)
    ∧ (Cert.Pre_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.1 = (fun _ => 1#1)
    ∧ (Cert.Pre_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.1 = (fun _ => 1#1)
    ∧ (Cert.Pre_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.1 = (fun _ => 1#1)
    ∧ (Cert.Pre_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.1 = (fun _ => 1#1)
    ∧ (Cert.Pre_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.1 = (fun _ => 1#1)
    ∧ (Cert.Pre_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.1 = (fun _ => 1#1)
    ∧ (Cert.Pre_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.1 = (fun _ => 1#1)
    ∧ (Cert.Pre_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.2.1 = (fun _ => 1#1)
    ∧ (Cert.Pre_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_setup [hPre_setup : Cert.Pre_setup.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).1 = (fun _ => 1#1)
    ∧ (Cert.Pre_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.1 = (fun _ => 1#1)
    ∧ (Cert.Pre_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.1 = (fun _ => 1#1)
    ∧ (Cert.Pre_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.1 = (fun _ => 1#1)
    ∧ (Cert.Pre_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.1 = (fun _ => 1#1)
    ∧ (Cert.Pre_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.1 = (fun _ => 1#1)
    ∧ (Cert.Pre_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.1 = (fun _ => 1#1)
    ∧ (Cert.Pre_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.1 = (fun _ => 1#1)
    ∧ (Cert.Pre_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.1 = (fun _ => 1#1)
    ∧ (Cert.Pre_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.1 = (fun _ => 1#1)
    ∧ (Cert.Pre_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.1 = (fun _ => 1#1)
    ∧ (Cert.Pre_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.1 = (fun _ => 1#1)
    ∧ (Cert.Pre_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.1 = (fun _ => 1#1)
    ∧ (Cert.Pre_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.2.1 = (fun _ => 1#1)
    ∧ (Cert.Pre_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_setup [hKernelIdeal : Cert.KernelIdeal.Facts] [hPre_setup : Cert.Pre_setup.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_setup m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_setup [hReferenceIdeal : Cert.ReferenceIdeal.Facts] [hPre_setup : Cert.Pre_setup.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_setup m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceIdeal_pre_setup [hKernelIdeal : Cert.KernelIdeal.Facts] [hReferenceIdeal : Cert.ReferenceIdeal.Facts] [hPre_setup : Cert.Pre_setup.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_setup m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_setup : Cert.Pre_setup.Facts),
    quiescent_Kernel (hKernel := hKernel)
    ∧ quiescent_KernelIdeal (hKernelIdeal := hKernelIdeal)
    ∧ quiescent_KernelIdeal_pre_setup (hKernelIdeal := hKernelIdeal) (hPre_setup := hPre_setup)
    ∧ quiescent_ReferenceIdeal (hReferenceIdeal := hReferenceIdeal)
    ∧ quiescent_ReferenceIdeal_pre_setup (hReferenceIdeal := hReferenceIdeal) (hPre_setup := hPre_setup)
    ∧ preserves_Kernel_KernelIdeal
    ∧ algebraic_KernelIdeal_ReferenceIdeal_pre_setup (hKernelIdeal := hKernelIdeal) (hReferenceIdeal := hReferenceIdeal) (hPre_setup := hPre_setup)
-- ==== Pre_setup.lean ====
abbrev S1024x200 : Shape := ⟨2, ![1024, 200]⟩
abbrev S1024x200x32 : Shape := ⟨3, ![1024, 200, 32]⟩
abbrev S1024x200x16 : Shape := ⟨3, ![1024, 200, 16]⟩
abbrev S93x256 : Shape := ⟨2, ![93, 256]⟩
abbrev S4x256 : Shape := ⟨2, ![4, 256]⟩
abbrev S13x256 : Shape := ⟨2, ![13, 256]⟩
abbrev S2x256 : Shape := ⟨2, ![2, 256]⟩
abbrev S32x256 : Shape := ⟨2, ![32, 256]⟩
abbrev S256 : Shape := ⟨1, ![256]⟩
abbrev S3x256 : Shape := ⟨2, ![3, 256]⟩
abbrev S16x256 : Shape := ⟨2, ![16, 256]⟩
abbrev S_ : Shape := ⟨0, ![]⟩

class Facts : Prop where
  bcast_S_S1024x200 : S_.BroadcastsInDim S1024x200 (![] : Fin 0 → Fin S1024x200.rank)
  bcast_S_S1024x200x32 : S_.BroadcastsInDim S1024x200x32 (![] : Fin 0 → Fin S1024x200x32.rank)
  bcast_S_S1024x200x16 : S_.BroadcastsInDim S1024x200x16 (![] : Fin 0 → Fin S1024x200x16.rank)
  bcast_S_S32x256 : S_.BroadcastsInDim S32x256 (![] : Fin 0 → Fin S32x256.rank)
  bcast_S_S16x256 : S_.BroadcastsInDim S16x256 (![] : Fin 0 → Fin S16x256.rank)
  bcast_S_S256 : S_.BroadcastsInDim S256 (![] : Fin 0 → Fin S256.rank)

variable [Facts]

def fn_part2 {F : FTy → Type} [FloatOps F] (main_arg23 : FVec F S256 .f32) (main_arg24 : FVec F S256 .f32) (main_v1 : IVec S1024x200 1) (main_v6 : IVec S1024x200 1) (main_v9 : IVec S1024x200x32 1) (main_v12 : IVec S1024x200x16 1) (main_v15 : IVec S32x256 1) (main_v18 : IVec S16x256 1) (main_v20 : IVec S256 1) (main_v22 : IVec S256 1) (main_v24 : IVec S256 1) (main_v26 : IVec S256 1) (main_v28 : IVec S256 1) (main_v30 : IVec S256 1) (main_v32 : IVec S256 1) (main_cst_12 : FVec F S_ .f32) : IVec S1024x200 1 × IVec S1024x200 1 × IVec S1024x200x32 1 × IVec S1024x200x16 1 × IVec S32x256 1 × IVec S16x256 1 × IVec S256 1 × IVec S256 1 × IVec S256 1 × IVec S256 1 × IVec S256 1 × IVec S256 1 × IVec S256 1 × IVec S256 1 × IVec S256 1 :=
  let main_v33 : FVec F S256 .f32 := broadcastInDim S256 ![] bcast_S_S256 main_cst_12
  let main_v34 : IVec S256 1 := cmpf .oeq main_arg23 main_v33
  let main_cst_13 : FVec F S_ .f32 := constant S_ .f32 0x00000000#32
  let main_v35 : FVec F S256 .f32 := broadcastInDim S256 ![] bcast_S_S256 main_cst_13
  let main_v36 : IVec S256 1 := cmpf .oeq main_arg24 main_v35
  (main_v1, main_v6, main_v9, main_v12, main_v15, main_v18, main_v20, main_v22, main_v24, main_v26, main_v28, main_v30, main_v32, main_v34, main_v36)

def fn_part1 {F : FTy → Type} [FloatOps F] (main_arg14 : FVec F S256 .f32) (main_arg15 : FVec F S256 .f32) (main_arg16 : FVec F S256 .f32) (main_arg18 : FVec F S256 .f32) (main_arg19 : FVec F S256 .f32) (main_arg20 : FVec F S256 .f32) (main_arg22 : FVec F S256 .f32) (main_arg23 : FVec F S256 .f32) (main_arg24 : FVec F S256 .f32) (main_v1 : IVec S1024x200 1) (main_v6 : IVec S1024x200 1) (main_v9 : IVec S1024x200x32 1) (main_v12 : IVec S1024x200x16 1) (main_v15 : IVec S32x256 1) (main_v16 : FVec F S16x256 .f32) (main_cst_4 : FVec F S_ .f32) : IVec S1024x200 1 × IVec S1024x200 1 × IVec S1024x200x32 1 × IVec S1024x200x16 1 × IVec S32x256 1 × IVec S16x256 1 × IVec S256 1 × IVec S256 1 × IVec S256 1 × IVec S256 1 × IVec S256 1 × IVec S256 1 × IVec S256 1 × IVec S256 1 × IVec S256 1 :=
  let main_v17 : FVec F S16x256 .f32 := broadcastInDim S16x256 ![] bcast_S_S16x256 main_cst_4
  let main_v18 : IVec S16x256 1 := cmpf .olt main_v16 main_v17
  let main_cst_5 : FVec F S_ .f32 := constant S_ .f32 0x00000000#32
  let main_v19 : FVec F S256 .f32 := broadcastInDim S256 ![] bcast_S_S256 main_cst_5
  let main_v20 : IVec S256 1 := cmpf .oeq main_arg14 main_v19
  let main_cst_6 : FVec F S_ .f32 := constant S_ .f32 0x3F800000#32
  let main_v21 : FVec F S256 .f32 := broadcastInDim S256 ![] bcast_S_S256 main_cst_6
  let main_v22 : IVec S256 1 := cmpf .oeq main_arg15 main_v21
  let main_cst_7 : FVec F S_ .f32 := constant S_ .f32 0x00000000#32
  let main_v23 : FVec F S256 .f32 := broadcastInDim S256 ![] bcast_S_S256 main_cst_7
  let main_v24 : IVec S256 1 := cmpf .oeq main_arg16 main_v23
  let main_cst_8 : FVec F S_ .f32 := constant S_ .f32 0x00000000#32
  let main_v25 : FVec F S256 .f32 := broadcastInDim S256 ![] bcast_S_S256 main_cst_8
  let main_v26 : IVec S256 1 := cmpf .oeq main_arg18 main_v25
  let main_cst_9 : FVec F S_ .f32 := constant S_ .f32 0x3F800000#32
  let main_v27 : FVec F S256 .f32 := broadcastInDim S256 ![] bcast_S_S256 main_cst_9
  let main_v28 : IVec S256 1 := cmpf .oeq main_arg19 main_v27
  let main_cst_10 : FVec F S_ .f32 := constant S_ .f32 0x00000000#32
  let main_v29 : FVec F S256 .f32 := broadcastInDim S256 ![] bcast_S_S256 main_cst_10
  let main_v30 : IVec S256 1 := cmpf .oeq main_arg20 main_v29
  let main_cst_11 : FVec F S_ .f32 := constant S_ .f32 0x00000000#32
  let main_v31 : FVec F S256 .f32 := broadcastInDim S256 ![] bcast_S_S256 main_cst_11
  let main_v32 : IVec S256 1 := cmpf .oeq main_arg22 main_v31
  let main_cst_12 : FVec F S_ .f32 := constant S_ .f32 0x3F800000#32
  fn_part2 (F := F) main_arg23 main_arg24 main_v1 main_v6 main_v9 main_v12 main_v15 main_v18 main_v20 main_v22 main_v24 main_v26 main_v28 main_v30 main_v32 main_cst_12

def fn {F : FTy → Type} [FloatOps F] (main_arg0 : IVec S1024x200 32) (main_arg1 : IVec S1024x200 32) (main_arg2 : IVec S1024x200 32) (main_arg3 : IVec S1024x200 32) (main_arg4 : IVec S1024x200 32) (main_arg5 : FVec F S1024x200x32 .f32) (main_arg6 : FVec F S1024x200x16 .f32) (main_arg7 : FVec F S93x256 .f32) (main_arg8 : FVec F S4x256 .f32) (main_arg9 : FVec F S13x256 .f32) (main_arg10 : FVec F S4x256 .f32) (main_arg11 : FVec F S2x256 .f32) (main_arg12 : FVec F S32x256 .f32) (main_arg13 : FVec F S32x256 .f32) (main_arg14 : FVec F S256 .f32) (main_arg15 : FVec F S256 .f32) (main_arg16 : FVec F S256 .f32) (main_arg17 : FVec F S3x256 .f32) (main_arg18 : FVec F S256 .f32) (main_arg19 : FVec F S256 .f32) (main_arg20 : FVec F S256 .f32) (main_arg21 : FVec F S16x256 .f32) (main_arg22 : FVec F S256 .f32) (main_arg23 : FVec F S256 .f32) (main_arg24 : FVec F S256 .f32) : IVec S1024x200 1 × IVec S1024x200 1 × IVec S1024x200x32 1 × IVec S1024x200x16 1 × IVec S32x256 1 × IVec S16x256 1 × IVec S256 1 × IVec S256 1 × IVec S256 1 × IVec S256 1 × IVec S256 1 × IVec S256 1 × IVec S256 1 × IVec S256 1 × IVec S256 1 :=
  let main_c : IVec S_ 32 := constantI S_ 32 92#32
  let main_v0 : IVec S1024x200 32 := broadcastInDim S1024x200 ![] bcast_S_S1024x200 main_c
  let main_v1 : IVec S1024x200 1 := cmpi .sle main_arg0 main_v0
  let main_c_0 : IVec S_ 32 := constantI S_ 32 0#32
  let main_v2 : IVec S1024x200 32 := broadcastInDim S1024x200 ![] bcast_S_S1024x200 main_c_0
  let main_v3 : IVec S1024x200 1 := cmpi .sge main_arg1 main_v2
  let main_c_1 : IVec S_ 32 := constantI S_ 32 4#32
  let main_v4 : IVec S1024x200 32 := broadcastInDim S1024x200 ![] bcast_S_S1024x200 main_c_1
  let main_v5 : IVec S1024x200 1 := cmpi .slt main_arg1 main_v4
  let main_v6 : IVec S1024x200 1 := andi main_v3 main_v5
  let main_v7 : FVec F S1024x200x32 .f32 := Host.absf main_arg5
  let main_cst : FVec F S_ .f32 := constant S_ .f32 0x7F800000#32
  let main_v8 : FVec F S1024x200x32 .f32 := broadcastInDim S1024x200x32 ![] bcast_S_S1024x200x32 main_cst
  let main_v9 : IVec S1024x200x32 1 := cmpf .olt main_v7 main_v8
  let main_v10 : FVec F S1024x200x16 .f32 := Host.absf main_arg6
  let main_cst_2 : FVec F S_ .f32 := constant S_ .f32 0x7F800000#32
  let main_v11 : FVec F S1024x200x16 .f32 := broadcastInDim S1024x200x16 ![] bcast_S_S1024x200x16 main_cst_2
  let main_v12 : IVec S1024x200x16 1 := cmpf .olt main_v10 main_v11
  let main_v13 : FVec F S32x256 .f32 := Host.absf main_arg13
  let main_cst_3 : FVec F S_ .f32 := constant S_ .f32 0x7F800000#32
  let main_v14 : FVec F S32x256 .f32 := broadcastInDim S32x256 ![] bcast_S_S32x256 main_cst_3
  let main_v15 : IVec S32x256 1 := cmpf .olt main_v13 main_v14
  let main_v16 : FVec F S16x256 .f32 := Host.absf main_arg21
  let main_cst_4 : FVec F S_ .f32 := constant S_ .f32 0x7F800000#32
  fn_part1 (F := F) main_arg14 main_arg15 main_arg16 main_arg18 main_arg19 main_arg20 main_arg22 main_arg23 main_arg24 main_v1 main_v6 main_v9 main_v12 main_v15 main_v16 main_cst_4
-- ==== Kernel.lean ====
abbrev S1024x200 : Shape := ⟨2, ![1024, 200]⟩
abbrev S1024x200x32 : Shape := ⟨3, ![1024, 200, 32]⟩
abbrev S1024x200x16 : Shape := ⟨3, ![1024, 200, 16]⟩
abbrev S93x256 : Shape := ⟨2, ![93, 256]⟩
abbrev S4x256 : Shape := ⟨2, ![4, 256]⟩
abbrev S13x256 : Shape := ⟨2, ![13, 256]⟩
abbrev S2x256 : Shape := ⟨2, ![2, 256]⟩
abbrev S32x256 : Shape := ⟨2, ![32, 256]⟩
abbrev S256 : Shape := ⟨1, ![256]⟩
abbrev S3x256 : Shape := ⟨2, ![3, 256]⟩
abbrev S16x256 : Shape := ⟨2, ![16, 256]⟩
abbrev S116x256 : Shape := ⟨2, ![116, 256]⟩
abbrev S_ : Shape := ⟨0, ![]⟩
abbrev S32 : Shape := ⟨1, ![32]⟩
abbrev S32x1 : Shape := ⟨2, ![32, 1]⟩
abbrev S16 : Shape := ⟨1, ![16]⟩
abbrev S16x1 : Shape := ⟨2, ![16, 1]⟩
abbrev S3 : Shape := ⟨1, ![3]⟩
abbrev S3x1 : Shape := ⟨2, ![3, 1]⟩
abbrev S256x32 : Shape := ⟨2, ![256, 32]⟩
abbrev S32x32 : Shape := ⟨2, ![32, 32]⟩
abbrev S256x16 : Shape := ⟨2, ![256, 16]⟩
abbrev S16x16 : Shape := ⟨2, ![16, 16]⟩
abbrev S5x256 : Shape := ⟨2, ![5, 256]⟩
abbrev S8x256 : Shape := ⟨2, ![8, 256]⟩
abbrev S1024x200x256 : Shape := ⟨3, ![1024, 200, 256]⟩
abbrev S16x200 : Shape := ⟨2, ![16, 200]⟩
abbrev S16x200x32 : Shape := ⟨3, ![16, 200, 32]⟩
abbrev S16x200x16 : Shape := ⟨3, ![16, 200, 16]⟩
abbrev S16x8x16 : Shape := ⟨3, ![16, 8, 16]⟩
abbrev S16x200x256 : Shape := ⟨3, ![16, 200, 256]⟩
abbrev S16x200x1 : Shape := ⟨3, ![16, 200, 1]⟩
abbrev S16x200x116 : Shape := ⟨3, ![16, 200, 116]⟩
abbrev S16x1x8 : Shape := ⟨3, ![16, 1, 8]⟩
abbrev S16x8 : Shape := ⟨2, ![16, 8]⟩
abbrev S3200x116 : Shape := ⟨2, ![3200, 116]⟩
abbrev S3200x32 : Shape := ⟨2, ![3200, 32]⟩
abbrev S3200x256 : Shape := ⟨2, ![3200, 256]⟩
abbrev S3200 : Shape := ⟨1, ![3200]⟩
abbrev S3200x1 : Shape := ⟨2, ![3200, 1]⟩
abbrev S3200x16 : Shape := ⟨2, ![3200, 16]⟩
abbrev S16x1x256 : Shape := ⟨3, ![16, 1, 256]⟩

abbrev nBuf : Space → Nat
  | .hbm => 67
  | .vmem => 25
  | .smem => 0
  | _ => 0

abbrev bufTy : (tb : Table) → Fin (tcTables nBuf tb) → BufTy
  | .hbm, ⟨0, _⟩ => ⟨S1024x200, .i32⟩
  | .hbm, ⟨1, _⟩ => ⟨S1024x200, .i32⟩
  | .hbm, ⟨2, _⟩ => ⟨S1024x200, .i32⟩
  | .hbm, ⟨3, _⟩ => ⟨S1024x200, .i32⟩
  | .hbm, ⟨4, _⟩ => ⟨S1024x200, .i32⟩
  | .hbm, ⟨5, _⟩ => ⟨S1024x200x32, .f32⟩
  | .hbm, ⟨6, _⟩ => ⟨S1024x200x16, .f32⟩
  | .hbm, ⟨7, _⟩ => ⟨S93x256, .f32⟩
  | .hbm, ⟨8, _⟩ => ⟨S4x256, .f32⟩
  | .hbm, ⟨9, _⟩ => ⟨S13x256, .f32⟩
  | .hbm, ⟨10, _⟩ => ⟨S4x256, .f32⟩
  | .hbm, ⟨11, _⟩ => ⟨S2x256, .f32⟩
  | .hbm, ⟨12, _⟩ => ⟨S32x256, .f32⟩
  | .hbm, ⟨13, _⟩ => ⟨S32x256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S3x256, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S16x256, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S116x256, .f32⟩
  | .hbm, ⟨26, _⟩ => ⟨S116x256, .bf16⟩
  | .hbm, ⟨27, _⟩ => ⟨S32x256, .bf16⟩
  | .hbm, ⟨28, _⟩ => ⟨S1024x200x32, .bf16⟩
  | .hbm, ⟨29, _⟩ => ⟨S1024x200x16, .bf16⟩
  | .hbm, ⟨30, _⟩ => ⟨S_, .f32⟩
  | .hbm, ⟨31, _⟩ => ⟨S32, .f32⟩
  | .hbm, ⟨32, _⟩ => ⟨S32x1, .f32⟩
  | .hbm, ⟨33, _⟩ => ⟨S_, .f32⟩
  | .hbm, ⟨34, _⟩ => ⟨S32x1, .f32⟩
  | .hbm, ⟨35, _⟩ => ⟨S32x1, .f32⟩
  | .hbm, ⟨36, _⟩ => ⟨S32x256, .f32⟩
  | .hbm, ⟨37, _⟩ => ⟨S32x256, .f32⟩
  | .hbm, ⟨38, _⟩ => ⟨S_, .f32⟩
  | .hbm, ⟨39, _⟩ => ⟨S16, .f32⟩
  | .hbm, ⟨40, _⟩ => ⟨S16x1, .f32⟩
  | .hbm, ⟨41, _⟩ => ⟨S_, .f32⟩
  | .hbm, ⟨42, _⟩ => ⟨S16x1, .f32⟩
  | .hbm, ⟨43, _⟩ => ⟨S16x1, .f32⟩
  | .hbm, ⟨44, _⟩ => ⟨S16x256, .f32⟩
  | .hbm, ⟨45, _⟩ => ⟨S16x256, .f32⟩
  | .hbm, ⟨46, _⟩ => ⟨S_, .f32⟩
  | .hbm, ⟨47, _⟩ => ⟨S3, .f32⟩
  | .hbm, ⟨48, _⟩ => ⟨S3x1, .f32⟩
  | .hbm, ⟨49, _⟩ => ⟨S_, .f32⟩
  | .hbm, ⟨50, _⟩ => ⟨S3x1, .f32⟩
  | .hbm, ⟨51, _⟩ => ⟨S3x1, .f32⟩
  | .hbm, ⟨52, _⟩ => ⟨S3x256, .f32⟩
  | .hbm, ⟨53, _⟩ => ⟨S3x256, .f32⟩
  | .hbm, ⟨54, _⟩ => ⟨S256x32, .f32⟩
  | .hbm, ⟨55, _⟩ => ⟨S32x32, .f32⟩
  | .hbm, ⟨56, _⟩ => ⟨S32x32, .bf16⟩
  | .hbm, ⟨57, _⟩ => ⟨S256x16, .f32⟩
  | .hbm, ⟨58, _⟩ => ⟨S16x16, .f32⟩
  | .hbm, ⟨59, _⟩ => ⟨S16x16, .bf16⟩
  | .hbm, ⟨60, _⟩ => ⟨S32x256, .bf16⟩
  | .hbm, ⟨61, _⟩ => ⟨S16x256, .bf16⟩
  | .hbm, ⟨62, _⟩ => ⟨S_, .f32⟩
  | .hbm, ⟨63, _⟩ => ⟨S5x256, .f32⟩
  | .hbm, ⟨64, _⟩ => ⟨S8x256, .f32⟩
  | .hbm, ⟨65, _⟩ => ⟨S8x256, .bf16⟩
  | .hbm, ⟨66, _⟩ => ⟨S1024x200x256, .f32⟩
  | .local _ .vmem, ⟨0, _⟩ => ⟨S16x200, .i32⟩
  | .local _ .vmem, ⟨1, _⟩ => ⟨S16x200, .i32⟩
  | .local _ .vmem, ⟨2, _⟩ => ⟨S16x200, .i32⟩
  | .local _ .vmem, ⟨3, _⟩ => ⟨S16x200, .i32⟩
  | .local _ .vmem, ⟨4, _⟩ => ⟨S16x200, .i32⟩
  | .local _ .vmem, ⟨5, _⟩ => ⟨S16x200, .i32⟩
  | .local _ .vmem, ⟨6, _⟩ => ⟨S16x200, .i32⟩
  | .local _ .vmem, ⟨7, _⟩ => ⟨S16x200, .i32⟩
  | .local _ .vmem, ⟨8, _⟩ => ⟨S16x200, .i32⟩
  | .local _ .vmem, ⟨9, _⟩ => ⟨S16x200, .i32⟩
  | .local _ .vmem, ⟨10, _⟩ => ⟨S16x200x32, .bf16⟩
  | .local _ .vmem, ⟨11, _⟩ => ⟨S16x200x32, .bf16⟩
  | .local _ .vmem, ⟨12, _⟩ => ⟨S16x200x16, .bf16⟩
  | .local _ .vmem, ⟨13, _⟩ => ⟨S16x200x16, .bf16⟩
  | .local _ .vmem, ⟨14, _⟩ => ⟨S16x8x16, .bf16⟩
  | .local _ .vmem, ⟨15, _⟩ => ⟨S16x8x16, .bf16⟩
  | .local _ .vmem, ⟨16, _⟩ => ⟨S116x256, .bf16⟩
  | .local _ .vmem, ⟨17, _⟩ => ⟨S32x256, .bf16⟩
  | .local _ .vmem, ⟨18, _⟩ => ⟨S32x256, .bf16⟩
  | .local _ .vmem, ⟨19, _⟩ => ⟨S16x256, .bf16⟩
  | .local _ .vmem, ⟨20, _⟩ => ⟨S8x256, .bf16⟩
  | .local _ .vmem, ⟨21, _⟩ => ⟨S32x32, .bf16⟩
  | .local _ .vmem, ⟨22, _⟩ => ⟨S16x16, .bf16⟩
  | .local _ .vmem, ⟨23, _⟩ => ⟨S16x200x256, .f32⟩
  | .local _ .vmem, ⟨24, _⟩ => ⟨S16x200x256, .f32⟩
  | _, _ => ⟨S1024x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_v6 : Ref sig .tc := ⟨.hbm, 32, rfl⟩
abbrev main_cst_0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_cst_2 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_3 : Ref sig .tc := ⟨.hbm, 46, rfl⟩
abbrev main_v17 : Ref sig .tc := ⟨.hbm, 47, rfl⟩
abbrev main_v18 : Ref sig .tc := ⟨.hbm, 48, rfl⟩
abbrev main_cst_4 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_5 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x200 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x200 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x200 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x200 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x200x32 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x200x16 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x8x16 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S116x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x32 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x16 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S16x200x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S1024x200 : Shape := ⟨2, ![1024, 200]⟩
abbrev S1024x200x32 : Shape := ⟨3, ![1024, 200, 32]⟩
abbrev S1024x200x16 : Shape := ⟨3, ![1024, 200, 16]⟩
abbrev S93x256 : Shape := ⟨2, ![93, 256]⟩
abbrev S4x256 : Shape := ⟨2, ![4, 256]⟩
abbrev S13x256 : Shape := ⟨2, ![13, 256]⟩
abbrev S2x256 : Shape := ⟨2, ![2, 256]⟩
abbrev S32x256 : Shape := ⟨2, ![32, 256]⟩
abbrev S256 : Shape := ⟨1, ![256]⟩
abbrev S3x256 : Shape := ⟨2, ![3, 256]⟩
abbrev S16x256 : Shape := ⟨2, ![16, 256]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x256 : Shape := ⟨3, ![1024, 200, 256]⟩
abbrev S1x1x256 : Shape := ⟨3, ![1, 1, 256]⟩
abbrev S1024x1x3 : Shape := ⟨3, ![1024, 1, 3]⟩
abbrev S1024x3 : Shape := ⟨2, ![1024, 3]⟩
abbrev S1024x256 : Shape := ⟨2, ![1024, 256]⟩
abbrev S1x256 : Shape := ⟨2, ![1, 256]⟩
abbrev S1024 : Shape := ⟨1, ![1024]⟩
abbrev S1024x1 : Shape := ⟨2, ![1024, 1]⟩

abbrev nBuf : Space → Nat
  | .hbm => 360
  | .vmem => 0
  | .smem => 0
  | _ => 0

abbrev hbmTy0_0 (i : Nat) : BufTy := match i % 128 with
  | 0 => ⟨S1024x200, .i32⟩
  | 1 => ⟨S1024x200, .i32⟩
  | 2 => ⟨S1024x200, .i32⟩
  | 3 => ⟨S1024x200, .i32⟩
  | 4 => ⟨S1024x200, .i32⟩
  | 5 => ⟨S1024x200x32, .f32⟩
  | 6 => ⟨S1024x200x16, .f32⟩
  | 7 => ⟨S93x256, .f32⟩
  | 8 => ⟨S4x256, .f32⟩
  | 9 => ⟨S13x256, .f32⟩
  | 10 => ⟨S4x256, .f32⟩
  | 11 => ⟨S2x256, .f32⟩
  | 12 => ⟨S32x256, .f32⟩
  | 13 => ⟨S32x256, .f32⟩
  | 14 => ⟨S256, .f32⟩
  | 15 => ⟨S256, .f32⟩
  | 16 => ⟨S256, .f32⟩
  | 17 => ⟨S3x256, .f32⟩
  | 18 => ⟨S256, .f32⟩
  | 19 => ⟨S256, .f32⟩
  | 20 => ⟨S256, .f32⟩
  | 21 => ⟨S16x256, .f32⟩
  | 22 => ⟨S256, .f32⟩
  | 23 => ⟨S256, .f32⟩
  | 24 => ⟨S256, .f32⟩
  | 25 => ⟨S_, .i32⟩
  | 26 => ⟨S1024x200, .i32⟩
  | 27 => ⟨S1024x200, .i1⟩
  | 28 => ⟨S_, .i32⟩
  | 29 => ⟨S_, .i32⟩
  | 30 => ⟨S1024x200, .i32⟩
  | 31 => ⟨S1024x200, .i32⟩
  | 32 => ⟨S_, .i32⟩
  | 33 => ⟨S1024x200, .i32⟩
  | 34 => ⟨S1024x200, .i1⟩
  | 35 => ⟨S_, .i32⟩
  | 36 => ⟨S1024x200, .i32⟩
  | 37 => ⟨S1024x200, .i32⟩
  | 38 => ⟨S1024x200, .i32⟩
  | 39 => ⟨S1024x200x1, .i32⟩
  | 40 => ⟨S1, .i32⟩
  | 41 => ⟨S_, .i32⟩
  | 42 => ⟨S1024x200x1, .i32⟩
  | 43 => ⟨S1024x200x1, .i1⟩
  | 44 => ⟨S1x1x1, .i32⟩
  | 45 => ⟨S1024x200x1, .i32⟩
  | 46 => ⟨S1024x200x1, .i1⟩
  | 47 => ⟨S1024x200x1, .i1⟩
  | 48 => ⟨S_, .i1⟩
  | 49 => ⟨S1024x200, .i1⟩
  | 50 => ⟨S1024x200x256, .f32⟩
  | 51 => ⟨S1024x200x256, .i1⟩
  | 52 => ⟨S_, .f32⟩
  | 53 => ⟨S1024x200x256, .f32⟩
  | 54 => ⟨S1024x200x256, .f32⟩
  | 55 => ⟨S_, .i32⟩
  | 56 => ⟨S1024x200, .i32⟩
  | 57 => ⟨S1024x200, .i1⟩
  | 58 => ⟨S_, .i32⟩
  | 59 => ⟨S1024x200, .i32⟩
  | 60 => ⟨S1024x200, .i32⟩
  | 61 => ⟨S1024x200, .i32⟩
  | 62 => ⟨S1024x200x1, .i32⟩
  | 63 => ⟨S1, .i32⟩
  | 64 => ⟨S_, .i32⟩
  | 65 => ⟨S1024x200x1, .i32⟩
  | 66 => ⟨S1024x200x1, .i1⟩
  | 67 => ⟨S1x1x1, .i32⟩
  | 68 => ⟨S1024x200x1, .i32⟩
  | 69 => ⟨S1024x200x1, .i1⟩
  | 70 => ⟨S1024x200x1, .i1⟩
  | 71 => ⟨S_, .i1⟩
  | 72 => ⟨S1024x200, .i1⟩
  | 73 => ⟨S1024x200x256, .f32⟩
  | 74 => ⟨S1024x200x256, .i1⟩
  | 75 => ⟨S_, .f32⟩
  | 76 => ⟨S1024x200x256, .f32⟩
  | 77 => ⟨S1024x200x256, .f32⟩
  | 78 => ⟨S1024x200x256, .f32⟩
  | 79 => ⟨S_, .i32⟩
  | 80 => ⟨S1024x200, .i32⟩
  | 81 => ⟨S1024x200, .i1⟩
  | 82 => ⟨S_, .i32⟩
  | 83 => ⟨S1024x200, .i32⟩
  | 84 => ⟨S1024x200, .i1⟩
  | 85 => ⟨S1024x200, .i1⟩
  | 86 => ⟨S_, .i32⟩
  | 87 => ⟨S_, .i32⟩
  | 88 => ⟨S_, .i32⟩
  | 89 => ⟨S1024x200, .i32⟩
  | 90 => ⟨S1024x200, .i32⟩
  | 91 => ⟨S_, .i32⟩
  | 92 => ⟨S1024x200, .i32⟩
  | 93 => ⟨S1024x200, .i32⟩
  | 94 => ⟨S_, .i32⟩
  | 95 => ⟨S_, .i32⟩
  | 96 => ⟨S_, .i32⟩
  | 97 => ⟨S1024x200, .i32⟩
  | 98 => ⟨S1024x200, .i32⟩
  | 99 => ⟨S_, .i32⟩
  | 100 => ⟨S1024x200, .i32⟩
  | 101 => ⟨S1024x200, .i32⟩
  | 102 => ⟨S_, .i32⟩
  | 103 => ⟨S1024x200, .i32⟩
  | 104 => ⟨S1024x200, .i1⟩
  | 105 => ⟨S_, .i32⟩
  | 106 => ⟨S1024x200, .i32⟩
  | 107 => ⟨S1024x200, .i32⟩
  | 108 => ⟨S1024x200, .i32⟩
  | 109 => ⟨S1024x200x1, .i32⟩
  | 110 => ⟨S1, .i32⟩
  | 111 => ⟨S_, .i32⟩
  | 112 => ⟨S1024x200x1, .i32⟩
  | 113 => ⟨S1024x200x1, .i1⟩
  | 114 => ⟨S1x1x1, .i32⟩
  | 115 => ⟨S1024x200x1, .i32⟩
  | 116 => ⟨S1024x200x1, .i1⟩
  | 117 => ⟨S1024x200x1, .i1⟩
  | 118 => ⟨S_, .i1⟩
  | 119 => ⟨S1024x200, .i1⟩
  | 120 => ⟨S1024x200x256, .f32⟩
  | 121 => ⟨S1024x200x256, .i1⟩
  | 122 => ⟨S_, .f32⟩
  | 123 => ⟨S1024x200x256, .f32⟩
  | 124 => ⟨S1024x200x256, .f32⟩
  | 125 => ⟨S_, .i32⟩
  | 126 => ⟨S1024x200, .i32⟩
  | 127 => ⟨S1024x200, .i1⟩
  | _ => ⟨S1024x200, .i32⟩

abbrev hbmTy0_1 (i : Nat) : BufTy := match i % 128 with
  | 0 => ⟨S_, .i32⟩
  | 1 => ⟨S1024x200, .i32⟩
  | 2 => ⟨S1024x200, .i32⟩
  | 3 => ⟨S1024x200, .i32⟩
  | 4 => ⟨S1024x200x1, .i32⟩
  | 5 => ⟨S1, .i32⟩
  | 6 => ⟨S_, .i32⟩
  | 7 => ⟨S1024x200x1, .i32⟩
  | 8 => ⟨S1024x200x1, .i1⟩
  | 9 => ⟨S1x1x1, .i32⟩
  | 10 => ⟨S1024x200x1, .i32⟩
  | 11 => ⟨S1024x200x1, .i1⟩
  | 12 => ⟨S1024x200x1, .i1⟩
  | 13 => ⟨S_, .i1⟩
  | 14 => ⟨S1024x200, .i1⟩
  | 15 => ⟨S1024x200x256, .f32⟩
  | 16 => ⟨S1024x200x256, .i1⟩
  | 17 => ⟨S_, .f32⟩
  | 18 => ⟨S1024x200x256, .f32⟩
  | 19 => ⟨S1024x200x256, .f32⟩
  | 20 => ⟨S1024x200x256, .f32⟩
  | 21 => ⟨S1024x200x1, .i1⟩
  | 22 => ⟨S1024x200x1, .f32⟩
  | 23 => ⟨S1024x200x256, .f32⟩
  | 24 => ⟨S1024x200x256, .f32⟩
  | 25 => ⟨S1024x200x256, .f32⟩
  | 26 => ⟨S_, .i32⟩
  | 27 => ⟨S1024x200, .i32⟩
  | 28 => ⟨S1024x200, .i1⟩
  | 29 => ⟨S_, .i32⟩
  | 30 => ⟨S1024x200, .i32⟩
  | 31 => ⟨S1024x200, .i1⟩
  | 32 => ⟨S1024x200, .i1⟩
  | 33 => ⟨S_, .i32⟩
  | 34 => ⟨S_, .i32⟩
  | 35 => ⟨S_, .i32⟩
  | 36 => ⟨S1024x200, .i32⟩
  | 37 => ⟨S1024x200, .i32⟩
  | 38 => ⟨S_, .i32⟩
  | 39 => ⟨S1024x200, .i32⟩
  | 40 => ⟨S1024x200, .i32⟩
  | 41 => ⟨S_, .i32⟩
  | 42 => ⟨S1024x200, .i32⟩
  | 43 => ⟨S1024x200, .i32⟩
  | 44 => ⟨S_, .i32⟩
  | 45 => ⟨S_, .i32⟩
  | 46 => ⟨S_, .i32⟩
  | 47 => ⟨S1024x200, .i32⟩
  | 48 => ⟨S1024x200, .i32⟩
  | 49 => ⟨S_, .i32⟩
  | 50 => ⟨S1024x200, .i32⟩
  | 51 => ⟨S1024x200, .i32⟩
  | 52 => ⟨S_, .i32⟩
  | 53 => ⟨S1024x200, .i32⟩
  | 54 => ⟨S1024x200, .i1⟩
  | 55 => ⟨S_, .i32⟩
  | 56 => ⟨S1024x200, .i32⟩
  | 57 => ⟨S1024x200, .i32⟩
  | 58 => ⟨S1024x200, .i32⟩
  | 59 => ⟨S1024x200x1, .i32⟩
  | 60 => ⟨S1, .i32⟩
  | 61 => ⟨S_, .i32⟩
  | 62 => ⟨S1024x200x1, .i32⟩
  | 63 => ⟨S1024x200x1, .i1⟩
  | 64 => ⟨S1x1x1, .i32⟩
  | 65 => ⟨S1024x200x1, .i32⟩
  | 66 => ⟨S1024x200x1, .i1⟩
  | 67 => ⟨S1024x200x1, .i1⟩
  | 68 => ⟨S_, .i1⟩
  | 69 => ⟨S1024x200, .i1⟩
  | 70 => ⟨S1024x200x256, .f32⟩
  | 71 => ⟨S1024x200x256, .i1⟩
  | 72 => ⟨S_, .f32⟩
  | 73 => ⟨S1024x200x256, .f32⟩
  | 74 => ⟨S1024x200x256, .f32⟩
  | 75 => ⟨S_, .i32⟩
  | 76 => ⟨S1024x200, .i32⟩
  | 77 => ⟨S1024x200, .i1⟩
  | 78 => ⟨S_, .i32⟩
  | 79 => ⟨S1024x200, .i32⟩
  | 80 => ⟨S1024x200, .i32⟩
  | 81 => ⟨S1024x200, .i32⟩
  | 82 => ⟨S1024x200x1, .i32⟩
  | 83 => ⟨S1, .i32⟩
  | 84 => ⟨S_, .i32⟩
  | 85 => ⟨S1024x200x1, .i32⟩
  | 86 => ⟨S1024x200x1, .i1⟩
  | 87 => ⟨S1x1x1, .i32⟩
  | 88 => ⟨S1024x200x1, .i32⟩
  | 89 => ⟨S1024x200x1, .i1⟩
  | 90 => ⟨S1024x200x1, .i1⟩
  | 91 => ⟨S_, .i1⟩
  | 92 => ⟨S1024x200, .i1⟩
  | 93 => ⟨S1024x200x256, .f32⟩
  | 94 => ⟨S1024x200x256, .i1⟩
  | 95 => ⟨S_, .f32⟩
  | 96 => ⟨S1024x200x256, .f32⟩
  | 97 => ⟨S1024x200x256, .f32⟩
  | 98 => ⟨S1024x200x256, .f32⟩
  | 99 => ⟨S1024x200x256, .f32⟩
  | 100 => ⟨S1x1x256, .f32⟩
  | 101 => ⟨S1024x200x256, .f32⟩
  | 102 => ⟨S1024x200x256, .f32⟩
  | 103 => ⟨S_, .f32⟩
  | 104 => ⟨S1024x200, .f32⟩
  | 105 => ⟨S1024x200x1, .f32⟩
  | 106 => ⟨S_, .f32⟩
  | 107 => ⟨S1024x200x1, .f32⟩
  | 108 => ⟨S1024x200x1, .f32⟩
  | 109 => ⟨S1024x200x256, .f32⟩
  | 110 => ⟨S1024x200x256, .f32⟩
  | 111 => ⟨S1024x200x256, .f32⟩
  | 112 => ⟨S_, .f32⟩
  | 113 => ⟨S1024x200, .f32⟩
  | 114 => ⟨S1024x200x1, .f32⟩
  | 115 => ⟨S_, .f32⟩
  | 116 => ⟨S1024x200x1, .f32⟩
  | 117 => ⟨S1024x200x1, .f32⟩
  | 118 => ⟨S1024x200x256, .f32⟩
  | 119 => ⟨S1024x200x256, .f32⟩
  | 120 => ⟨S_, .f32⟩
  | 121 => ⟨S1024x200x1, .f32⟩
  | 122 => ⟨S1024x200x1, .f32⟩
  | 123 => ⟨S1024x200x1, .f32⟩
  | 124 => ⟨S1024x200x256, .f32⟩
  | 125 => ⟨S1024x200x256, .f32⟩
  | 126 => ⟨S1x1x256, .f32⟩
  | 127 => ⟨S1024x200x256, .f32⟩
  | _ => ⟨S1024x200, .i32⟩

abbrev hbmTy0_2 (i : Nat) : BufTy := match i % 128 with
  | 0 => ⟨S1024x200x256, .f32⟩
  | 1 => ⟨S1x1x256, .f32⟩
  | 2 => ⟨S1024x200x256, .f32⟩
  | 3 => ⟨S1024x200x256, .f32⟩
  | 4 => ⟨S_, .f32⟩
  | 5 => ⟨S1024x200x256, .f32⟩
  | 6 => ⟨S1024x200x256, .f32⟩
  | 7 => ⟨S1024x200x256, .f32⟩
  | 8 => ⟨S1024x200x1, .i1⟩
  | 9 => ⟨S1024x200x1, .f32⟩
  | 10 => ⟨S1024x200x256, .f32⟩
  | 11 => ⟨S1024x200x256, .f32⟩
  | 12 => ⟨S1024x200x256, .f32⟩
  | 13 => ⟨S1024x1x3, .f32⟩
  | 14 => ⟨S1024x3, .f32⟩
  | 15 => ⟨S1024x256, .f32⟩
  | 16 => ⟨S1x256, .f32⟩
  | 17 => ⟨S1024x256, .f32⟩
  | 18 => ⟨S1024x256, .f32⟩
  | 19 => ⟨S_, .f32⟩
  | 20 => ⟨S1024, .f32⟩
  | 21 => ⟨S1024x1, .f32⟩
  | 22 => ⟨S_, .f32⟩
  | 23 => ⟨S1024x1, .f32⟩
  | 24 => ⟨S1024x1, .f32⟩
  | 25 => ⟨S1024x256, .f32⟩
  | 26 => ⟨S1024x256, .f32⟩
  | 27 => ⟨S1024x256, .f32⟩
  | 28 => ⟨S_, .f32⟩
  | 29 => ⟨S1024, .f32⟩
  | 30 => ⟨S1024x1, .f32⟩
  | 31 => ⟨S_, .f32⟩
  | 32 => ⟨S1024x1, .f32⟩
  | 33 => ⟨S1024x1, .f32⟩
  | 34 => ⟨S1024x256, .f32⟩
  | 35 => ⟨S1024x256, .f32⟩
  | 36 => ⟨S_, .f32⟩
  | 37 => ⟨S1024x1, .f32⟩
  | 38 => ⟨S1024x1, .f32⟩
  | 39 => ⟨S1024x1, .f32⟩
  | 40 => ⟨S1024x256, .f32⟩
  | 41 => ⟨S1024x256, .f32⟩
  | 42 => ⟨S1x256, .f32⟩
  | 43 => ⟨S1024x256, .f32⟩
  | 44 => ⟨S1024x256, .f32⟩
  | 45 => ⟨S1x256, .f32⟩
  | 46 => ⟨S1024x256, .f32⟩
  | 47 => ⟨S1024x256, .f32⟩
  | 48 => ⟨S_, .f32⟩
  | 49 => ⟨S1024x256, .f32⟩
  | 50 => ⟨S1024x256, .f32⟩
  | 51 => ⟨S_, .i32⟩
  | 52 => ⟨S1, .i32⟩
  | 53 => ⟨S1024x200x256, .f32⟩
  | 54 => ⟨S_, .i32⟩
  | 55 => ⟨S1024x200, .i32⟩
  | 56 => ⟨S1024x200, .i1⟩
  | 57 => ⟨S1024x200x256, .f32⟩
  | 58 => ⟨S1x1x256, .f32⟩
  | 59 => ⟨S1024x200x256, .f32⟩
  | 60 => ⟨S1024x200x256, .f32⟩
  | 61 => ⟨S_, .f32⟩
  | 62 => ⟨S1024x200, .f32⟩
  | 63 => ⟨S1024x200x1, .f32⟩
  | 64 => ⟨S_, .f32⟩
  | 65 => ⟨S1024x200x1, .f32⟩
  | 66 => ⟨S1024x200x1, .f32⟩
  | 67 => ⟨S1024x200x256, .f32⟩
  | 68 => ⟨S1024x200x256, .f32⟩
  | 69 => ⟨S1024x200x256, .f32⟩
  | 70 => ⟨S_, .f32⟩
  | 71 => ⟨S1024x200, .f32⟩
  | 72 => ⟨S1024x200x1, .f32⟩
  | 73 => ⟨S_, .f32⟩
  | 74 => ⟨S1024x200x1, .f32⟩
  | 75 => ⟨S1024x200x1, .f32⟩
  | 76 => ⟨S1024x200x256, .f32⟩
  | 77 => ⟨S1024x200x256, .f32⟩
  | 78 => ⟨S_, .f32⟩
  | 79 => ⟨S1024x200x1, .f32⟩
  | 80 => ⟨S1024x200x1, .f32⟩
  | 81 => ⟨S1024x200x1, .f32⟩
  | 82 => ⟨S1024x200x256, .f32⟩
  | 83 => ⟨S1024x200x256, .f32⟩
  | 84 => ⟨S1x1x256, .f32⟩
  | 85 => ⟨S1024x200x256, .f32⟩
  | 86 => ⟨S1024x200x256, .f32⟩
  | 87 => ⟨S1x1x256, .f32⟩
  | 88 => ⟨S1024x200x256, .f32⟩
  | 89 => ⟨S1024x200x256, .f32⟩
  | 90 => ⟨S_, .f32⟩
  | 91 => ⟨S1024x200x256, .f32⟩
  | 92 => ⟨S1024x200x256, .f32⟩
  | 93 => ⟨S1024x200x1, .i1⟩
  | 94 => ⟨S1024x200x1, .f32⟩
  | 95 => ⟨S1024x200x256, .f32⟩
  | 96 => ⟨S1024x200x256, .f32⟩
  | 97 => ⟨S1024x200x256, .f32⟩
  | 98 => ⟨S1024x200x1, .i1⟩
  | 99 => ⟨S_, .f32⟩
  | 100 => ⟨S_, .f32⟩
  | 101 => ⟨S1024x200x256, .i1⟩
  | 102 => ⟨S1024x200x256, .f32⟩
  | 103 => ⟨S1024x200x256, .f32⟩
  | _ => ⟨S1024x200, .i32⟩

abbrev hbmTy (i : Nat) : BufTy := match i / 128 with
  | 0 => hbmTy0_0 i
  | 1 => hbmTy0_1 i
  | 2 => hbmTy0_2 i
  | _ => ⟨S1024x200, .i32⟩

abbrev bufTy : (tb : Table) → Fin (tcTables nBuf tb) → BufTy
  | .hbm, ⟨i, _⟩ => hbmTy i
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_v0 : Ref sig .tc := ⟨.hbm, 26, rfl⟩
abbrev main_v1 : Ref sig .tc := ⟨.hbm, 27, rfl⟩
abbrev main_c_0 : Ref sig .tc := ⟨.hbm, 28, rfl⟩
abbrev main_call0_v0 : Ref sig .tc := ⟨.hbm, 29, rfl⟩
abbrev main_call0_v1 : Ref sig .tc := ⟨.hbm, 30, rfl⟩
abbrev main_v2 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v3 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v4 : Ref sig .tc := ⟨.hbm, 77, rfl⟩
abbrev main_v5 : Ref sig .tc := ⟨.hbm, 78, rfl⟩
abbrev main_c_1 : Ref sig .tc := ⟨.hbm, 79, rfl⟩
abbrev main_v6 : Ref sig .tc := ⟨.hbm, 80, rfl⟩
abbrev main_v7 : Ref sig .tc := ⟨.hbm, 81, rfl⟩
abbrev main_c_2 : Ref sig .tc := ⟨.hbm, 82, rfl⟩
abbrev main_v8 : Ref sig .tc := ⟨.hbm, 83, rfl⟩
abbrev main_v9 : Ref sig .tc := ⟨.hbm, 84, rfl⟩
abbrev main_v10 : Ref sig .tc := ⟨.hbm, 85, rfl⟩
abbrev main_c_3 : Ref sig .tc := ⟨.hbm, 86, rfl⟩
abbrev main_c_4 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_v11 : Ref sig .tc := ⟨.hbm, 93, rfl⟩
abbrev main_c_5 : Ref sig .tc := ⟨.hbm, 94, rfl⟩
abbrev main_c_6 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_v12 : Ref sig .tc := ⟨.hbm, 101, rfl⟩
abbrev main_call5_c : Ref sig .tc := ⟨.hbm, 102, rfl⟩
abbrev main_call5_v0 : Ref sig .tc := ⟨.hbm, 103, rfl⟩
abbrev main_call5_v1 : Ref sig .tc := ⟨.hbm, 104, rfl⟩
abbrev main_call5_c_0 : Ref sig .tc := ⟨.hbm, 105, rfl⟩
abbrev main_call5_v2 : Ref sig .tc := ⟨.hbm, 106, rfl⟩
abbrev main_call5_v3 : Ref sig .tc := ⟨.hbm, 107, rfl⟩
abbrev main_call5_v4 : Ref sig .tc := ⟨.hbm, 108, rfl⟩
abbrev main_call5_v5 : Ref sig .tc := ⟨.hbm, 109, rfl⟩
abbrev main_call5_c_1 : Ref sig .tc := ⟨.hbm, 110, rfl⟩
abbrev main_call5_c_2 : Ref sig .tc := ⟨.hbm, 111, rfl⟩
abbrev main_call5_v6 : Ref sig .tc := ⟨.hbm, 112, rfl⟩
abbrev main_call5_v7 : Ref sig .tc := ⟨.hbm, 113, rfl⟩
abbrev main_call5_v8 : Ref sig .tc := ⟨.hbm, 114, rfl⟩
abbrev main_call5_v9 : Ref sig .tc := ⟨.hbm, 115, rfl⟩
abbrev main_call5_v10 : Ref sig .tc := ⟨.hbm, 116, rfl⟩
abbrev main_call5_v11 : Ref sig .tc := ⟨.hbm, 117, rfl⟩
abbrev main_call5_c_3 : Ref sig .tc := ⟨.hbm, 118, rfl⟩
abbrev main_call5_v12 : Ref sig .tc := ⟨.hbm, 119, rfl⟩
abbrev main_call5_v13 : Ref sig .tc := ⟨.hbm, 120, rfl⟩
abbrev main_call5_v14 : Ref sig .tc := ⟨.hbm, 121, rfl⟩
abbrev main_call5_cst : Ref sig .tc := ⟨.hbm, 122, rfl⟩
abbrev main_call5_v15 : Ref sig .tc := ⟨.hbm, 123, rfl⟩
abbrev main_v13 : Ref sig .tc := ⟨.hbm, 124, rfl⟩
abbrev main_call6_c : Ref sig .tc := ⟨.hbm, 125, rfl⟩
abbrev main_call6_v0 : Ref sig .tc := ⟨.hbm, 126, rfl⟩
abbrev main_call6_v1 : Ref sig .tc := ⟨.hbm, 127, rfl⟩
abbrev main_call6_c_0 : Ref sig .tc := ⟨.hbm, 128, rfl⟩
abbrev main_call6_v2 : Ref sig .tc := ⟨.hbm, 129, rfl⟩
abbrev main_call6_v3 : Ref sig .tc := ⟨.hbm, 130, rfl⟩
abbrev main_call6_v4 : Ref sig .tc := ⟨.hbm, 131, rfl⟩
abbrev main_call6_v5 : Ref sig .tc := ⟨.hbm, 132, rfl⟩
abbrev main_call6_c_1 : Ref sig .tc := ⟨.hbm, 133, rfl⟩
abbrev main_call6_c_2 : Ref sig .tc := ⟨.hbm, 134, rfl⟩
abbrev main_call6_v6 : Ref sig .tc := ⟨.hbm, 135, rfl⟩
abbrev main_call6_v7 : Ref sig .tc := ⟨.hbm, 136, rfl⟩
abbrev main_call6_v8 : Ref sig .tc := ⟨.hbm, 137, rfl⟩
abbrev main_call6_v9 : Ref sig .tc := ⟨.hbm, 138, rfl⟩
abbrev main_call6_v10 : Ref sig .tc := ⟨.hbm, 139, rfl⟩
abbrev main_call6_v11 : Ref sig .tc := ⟨.hbm, 140, rfl⟩
abbrev main_call6_c_3 : Ref sig .tc := ⟨.hbm, 141, rfl⟩
abbrev main_call6_v12 : Ref sig .tc := ⟨.hbm, 142, rfl⟩
abbrev main_call6_v13 : Ref sig .tc := ⟨.hbm, 143, rfl⟩
abbrev main_call6_v14 : Ref sig .tc := ⟨.hbm, 144, rfl⟩
abbrev main_call6_cst : Ref sig .tc := ⟨.hbm, 145, rfl⟩
abbrev main_call6_v15 : Ref sig .tc := ⟨.hbm, 146, rfl⟩
abbrev main_v14 : Ref sig .tc := ⟨.hbm, 147, rfl⟩
abbrev main_v15 : Ref sig .tc := ⟨.hbm, 148, rfl⟩
abbrev main_v16 : Ref sig .tc := ⟨.hbm, 149, rfl⟩
abbrev main_v17 : Ref sig .tc := ⟨.hbm, 150, rfl⟩
abbrev main_v18 : Ref sig .tc := ⟨.hbm, 151, rfl⟩
abbrev main_v19 : Ref sig .tc := ⟨.hbm, 152, rfl⟩
abbrev main_v20 : Ref sig .tc := ⟨.hbm, 153, rfl⟩
abbrev main_c_7 : Ref sig .tc := ⟨.hbm, 154, rfl⟩
abbrev main_v21 : Ref sig .tc := ⟨.hbm, 155, rfl⟩
abbrev main_v22 : Ref sig .tc := ⟨.hbm, 156, rfl⟩
abbrev main_c_8 : Ref sig .tc := ⟨.hbm, 157, rfl⟩
abbrev main_v23 : Ref sig .tc := ⟨.hbm, 158, rfl⟩
abbrev main_v24 : Ref sig .tc := ⟨.hbm, 159, rfl⟩
abbrev main_v25 : Ref sig .tc := ⟨.hbm, 160, rfl⟩
abbrev main_c_9 : Ref sig .tc := ⟨.hbm, 161, rfl⟩
abbrev main_c_10 : Ref sig .tc := ⟨.hbm, 162, rfl⟩
abbrev main_call7_v0 : Ref sig .tc := ⟨.hbm, 163, rfl⟩
abbrev main_call7_v1 : Ref sig .tc := ⟨.hbm, 164, rfl⟩
abbrev main_call7_v2 : Ref sig .tc := ⟨.hbm, 165, rfl⟩
abbrev main_call7_v3 : Ref sig .tc := ⟨.hbm, 166, rfl⟩
abbrev main_call7_v4 : Ref sig .tc := ⟨.hbm, 167, rfl⟩
abbrev main_v26 : Ref sig .tc := ⟨.hbm, 168, rfl⟩
abbrev main_c_11 : Ref sig .tc := ⟨.hbm, 169, rfl⟩
abbrev main_v27 : Ref sig .tc := ⟨.hbm, 170, rfl⟩
abbrev main_v28 : Ref sig .tc := ⟨.hbm, 171, rfl⟩
abbrev main_c_12 : Ref sig .tc := ⟨.hbm, 172, rfl⟩
abbrev main_c_13 : Ref sig .tc := ⟨.hbm, 173, rfl⟩
abbrev main_call8_v0 : Ref sig .tc := ⟨.hbm, 174, rfl⟩
abbrev main_call8_v1 : Ref sig .tc := ⟨.hbm, 175, rfl⟩
abbrev main_call8_v2 : Ref sig .tc := ⟨.hbm, 176, rfl⟩
abbrev main_call8_v3 : Ref sig .tc := ⟨.hbm, 177, rfl⟩
abbrev main_call8_v4 : Ref sig .tc := ⟨.hbm, 178, rfl⟩
abbrev main_v29 : Ref sig .tc := ⟨.hbm, 179, rfl⟩
abbrev main_call9_c : Ref sig .tc := ⟨.hbm, 180, rfl⟩
abbrev main_call9_v0 : Ref sig .tc := ⟨.hbm, 181, rfl⟩
abbrev main_call9_v1 : Ref sig .tc := ⟨.hbm, 182, rfl⟩
abbrev main_call9_c_0 : Ref sig .tc := ⟨.hbm, 183, rfl⟩
abbrev main_call9_v2 : Ref sig .tc := ⟨.hbm, 184, rfl⟩
abbrev main_call9_v3 : Ref sig .tc := ⟨.hbm, 185, rfl⟩
abbrev main_call9_v4 : Ref sig .tc := ⟨.hbm, 186, rfl⟩
abbrev main_call9_v5 : Ref sig .tc := ⟨.hbm, 187, rfl⟩
abbrev main_call9_c_1 : Ref sig .tc := ⟨.hbm, 188, rfl⟩
abbrev main_call9_c_2 : Ref sig .tc := ⟨.hbm, 189, rfl⟩
abbrev main_call9_v6 : Ref sig .tc := ⟨.hbm, 190, rfl⟩
abbrev main_call9_v7 : Ref sig .tc := ⟨.hbm, 191, rfl⟩
abbrev main_call9_v8 : Ref sig .tc := ⟨.hbm, 192, rfl⟩
abbrev main_call9_v9 : Ref sig .tc := ⟨.hbm, 193, rfl⟩
abbrev main_call9_v10 : Ref sig .tc := ⟨.hbm, 194, rfl⟩
abbrev main_call9_v11 : Ref sig .tc := ⟨.hbm, 195, rfl⟩
abbrev main_call9_c_3 : Ref sig .tc := ⟨.hbm, 196, rfl⟩
abbrev main_call9_v12 : Ref sig .tc := ⟨.hbm, 197, rfl⟩
abbrev main_call9_v13 : Ref sig .tc := ⟨.hbm, 198, rfl⟩
abbrev main_call9_v14 : Ref sig .tc := ⟨.hbm, 199, rfl⟩
abbrev main_call9_cst : Ref sig .tc := ⟨.hbm, 200, rfl⟩
abbrev main_call9_v15 : Ref sig .tc := ⟨.hbm, 201, rfl⟩
abbrev main_v30 : Ref sig .tc := ⟨.hbm, 202, rfl⟩
abbrev main_call10_c : Ref sig .tc := ⟨.hbm, 203, rfl⟩
abbrev main_call10_v0 : Ref sig .tc := ⟨.hbm, 204, rfl⟩
abbrev main_call10_v1 : Ref sig .tc := ⟨.hbm, 205, rfl⟩
abbrev main_call10_c_0 : Ref sig .tc := ⟨.hbm, 206, rfl⟩
abbrev main_call10_v2 : Ref sig .tc := ⟨.hbm, 207, rfl⟩
abbrev main_call10_v3 : Ref sig .tc := ⟨.hbm, 208, rfl⟩
abbrev main_call10_v4 : Ref sig .tc := ⟨.hbm, 209, rfl⟩
abbrev main_call10_v5 : Ref sig .tc := ⟨.hbm, 210, rfl⟩
abbrev main_call10_c_1 : Ref sig .tc := ⟨.hbm, 211, rfl⟩
abbrev main_call10_c_2 : Ref sig .tc := ⟨.hbm, 212, rfl⟩
abbrev main_call10_v6 : Ref sig .tc := ⟨.hbm, 213, rfl⟩
abbrev main_call10_v7 : Ref sig .tc := ⟨.hbm, 214, rfl⟩
abbrev main_call10_v8 : Ref sig .tc := ⟨.hbm, 215, rfl⟩
abbrev main_call10_v9 : Ref sig .tc := ⟨.hbm, 216, rfl⟩
abbrev main_call10_v10 : Ref sig .tc := ⟨.hbm, 217, rfl⟩
abbrev main_call10_v11 : Ref sig .tc := ⟨.hbm, 218, rfl⟩
abbrev main_call10_c_3 : Ref sig .tc := ⟨.hbm, 219, rfl⟩
abbrev main_call10_v12 : Ref sig .tc := ⟨.hbm, 220, rfl⟩
abbrev main_call10_v13 : Ref sig .tc := ⟨.hbm, 221, rfl⟩
abbrev main_call10_v14 : Ref sig .tc := ⟨.hbm, 222, rfl⟩
abbrev main_call10_cst : Ref sig .tc := ⟨.hbm, 223, rfl⟩
abbrev main_call10_v15 : Ref sig .tc := ⟨.hbm, 224, rfl⟩
abbrev main_v31 : Ref sig .tc := ⟨.hbm, 225, rfl⟩
abbrev main_v32 : Ref sig .tc := ⟨.hbm, 226, rfl⟩
abbrev main_v33 : Ref sig .tc := ⟨.hbm, 227, rfl⟩
abbrev main_v34 : Ref sig .tc := ⟨.hbm, 228, rfl⟩
abbrev main_v35 : Ref sig .tc := ⟨.hbm, 229, rfl⟩
abbrev main_v36 : Ref sig .tc := ⟨.hbm, 230, rfl⟩
abbrev main_cst : Ref sig .tc := ⟨.hbm, 231, rfl⟩
abbrev main_v37 : Ref sig .tc := ⟨.hbm, 232, rfl⟩
abbrev main_v38 : Ref sig .tc := ⟨.hbm, 233, rfl⟩
abbrev main_cst_14 : Ref sig .tc := ⟨.hbm, 234, rfl⟩
abbrev main_v39 : Ref sig .tc := ⟨.hbm, 235, rfl⟩
abbrev main_v40 : Ref sig .tc := ⟨.hbm, 236, rfl⟩
abbrev main_v41 : Ref sig .tc := ⟨.hbm, 237, rfl⟩
abbrev main_v42 : Ref sig .tc := ⟨.hbm, 238, rfl⟩
abbrev main_v43 : Ref sig .tc := ⟨.hbm, 239, rfl⟩
abbrev main_cst_15 : Ref sig .tc := ⟨.hbm, 240, rfl⟩
abbrev main_v44 : Ref sig .tc := ⟨.hbm, 241, rfl⟩
abbrev main_v45 : Ref sig .tc := ⟨.hbm, 242, rfl⟩
abbrev main_cst_16 : Ref sig .tc := ⟨.hbm, 243, rfl⟩
abbrev main_v46 : Ref sig .tc := ⟨.hbm, 244, rfl⟩
abbrev main_v47 : Ref sig .tc := ⟨.hbm, 245, rfl⟩
abbrev main_v48 : Ref sig .tc := ⟨.hbm, 246, rfl⟩
abbrev main_v49 : Ref sig .tc := ⟨.hbm, 247, rfl⟩
abbrev main_cst_17 : Ref sig .tc := ⟨.hbm, 248, rfl⟩
abbrev main_v50 : Ref sig .tc := ⟨.hbm, 249, rfl⟩
abbrev main_v51 : Ref sig .tc := ⟨.hbm, 250, rfl⟩
abbrev main_v52 : Ref sig .tc := ⟨.hbm, 251, rfl⟩
abbrev main_v53 : Ref sig .tc := ⟨.hbm, 252, rfl⟩
abbrev main_v54 : Ref sig .tc := ⟨.hbm, 253, rfl⟩
abbrev main_v55 : Ref sig .tc := ⟨.hbm, 254, rfl⟩
abbrev main_v56 : Ref sig .tc := ⟨.hbm, 255, rfl⟩
abbrev main_v57 : Ref sig .tc := ⟨.hbm, 256, rfl⟩
abbrev main_v58 : Ref sig .tc := ⟨.hbm, 257, rfl⟩
abbrev main_v59 : Ref sig .tc := ⟨.hbm, 258, rfl⟩
abbrev main_v60 : Ref sig .tc := ⟨.hbm, 259, rfl⟩
abbrev main_call11_cst : Ref sig .tc := ⟨.hbm, 260, rfl⟩
abbrev main_call11_v0 : Ref sig .tc := ⟨.hbm, 261, rfl⟩
abbrev main_v61 : Ref sig .tc := ⟨.hbm, 262, rfl⟩
abbrev main_v62 : Ref sig .tc := ⟨.hbm, 263, rfl⟩
abbrev main_v63 : Ref sig .tc := ⟨.hbm, 264, rfl⟩
abbrev main_v64 : Ref sig .tc := ⟨.hbm, 265, rfl⟩
abbrev main_v65 : Ref sig .tc := ⟨.hbm, 266, rfl⟩
abbrev main_v66 : Ref sig .tc := ⟨.hbm, 267, rfl⟩
abbrev main_v67 : Ref sig .tc := ⟨.hbm, 268, rfl⟩
abbrev main_v68 : Ref sig .tc := ⟨.hbm, 269, rfl⟩
abbrev main_v69 : Ref sig .tc := ⟨.hbm, 270, rfl⟩
abbrev main_v70 : Ref sig .tc := ⟨.hbm, 271, rfl⟩
abbrev main_v71 : Ref sig .tc := ⟨.hbm, 272, rfl⟩
abbrev main_v72 : Ref sig .tc := ⟨.hbm, 273, rfl⟩
abbrev main_v73 : Ref sig .tc := ⟨.hbm, 274, rfl⟩
abbrev main_cst_18 : Ref sig .tc := ⟨.hbm, 275, rfl⟩
abbrev main_v74 : Ref sig .tc := ⟨.hbm, 276, rfl⟩
abbrev main_v75 : Ref sig .tc := ⟨.hbm, 277, rfl⟩
abbrev main_cst_19 : Ref sig .tc := ⟨.hbm, 278, rfl⟩
abbrev main_v76 : Ref sig .tc := ⟨.hbm, 279, rfl⟩
abbrev main_v77 : Ref sig .tc := ⟨.hbm, 280, rfl⟩
abbrev main_v78 : Ref sig .tc := ⟨.hbm, 281, rfl⟩
abbrev main_v79 : Ref sig .tc := ⟨.hbm, 282, rfl⟩
abbrev main_v80 : Ref sig .tc := ⟨.hbm, 283, rfl⟩
abbrev main_cst_20 : Ref sig .tc := ⟨.hbm, 284, rfl⟩
abbrev main_v81 : Ref sig .tc := ⟨.hbm, 285, rfl⟩
abbrev main_v82 : Ref sig .tc := ⟨.hbm, 286, rfl⟩
abbrev main_cst_21 : Ref sig .tc := ⟨.hbm, 287, rfl⟩
abbrev main_v83 : Ref sig .tc := ⟨.hbm, 288, rfl⟩
abbrev main_v84 : Ref sig .tc := ⟨.hbm, 289, rfl⟩
abbrev main_v85 : Ref sig .tc := ⟨.hbm, 290, rfl⟩
abbrev main_v86 : Ref sig .tc := ⟨.hbm, 291, rfl⟩
abbrev main_cst_22 : Ref sig .tc := ⟨.hbm, 292, rfl⟩
abbrev main_v87 : Ref sig .tc := ⟨.hbm, 293, rfl⟩
abbrev main_v88 : Ref sig .tc := ⟨.hbm, 294, rfl⟩
abbrev main_v89 : Ref sig .tc := ⟨.hbm, 295, rfl⟩
abbrev main_v90 : Ref sig .tc := ⟨.hbm, 296, rfl⟩
abbrev main_v91 : Ref sig .tc := ⟨.hbm, 297, rfl⟩
abbrev main_v92 : Ref sig .tc := ⟨.hbm, 298, rfl⟩
abbrev main_v93 : Ref sig .tc := ⟨.hbm, 299, rfl⟩
abbrev main_v94 : Ref sig .tc := ⟨.hbm, 300, rfl⟩
abbrev main_v95 : Ref sig .tc := ⟨.hbm, 301, rfl⟩
abbrev main_v96 : Ref sig .tc := ⟨.hbm, 302, rfl⟩
abbrev main_v97 : Ref sig .tc := ⟨.hbm, 303, rfl⟩
abbrev main_call12_cst : Ref sig .tc := ⟨.hbm, 304, rfl⟩
abbrev main_call12_v0 : Ref sig .tc := ⟨.hbm, 305, rfl⟩
abbrev main_v98 : Ref sig .tc := ⟨.hbm, 306, rfl⟩
abbrev main_c_23 : Ref sig .tc := ⟨.hbm, 307, rfl⟩
abbrev main_v99 : Ref sig .tc := ⟨.hbm, 308, rfl⟩
abbrev main_v100 : Ref sig .tc := ⟨.hbm, 309, rfl⟩
abbrev main_c_24 : Ref sig .tc := ⟨.hbm, 310, rfl⟩
abbrev main_v101 : Ref sig .tc := ⟨.hbm, 311, rfl⟩
abbrev main_v102 : Ref sig .tc := ⟨.hbm, 312, rfl⟩
abbrev main_v103 : Ref sig .tc := ⟨.hbm, 313, rfl⟩
abbrev main_v104 : Ref sig .tc := ⟨.hbm, 314, rfl⟩
abbrev main_v105 : Ref sig .tc := ⟨.hbm, 315, rfl⟩
abbrev main_v106 : Ref sig .tc := ⟨.hbm, 316, rfl⟩
abbrev main_cst_25 : Ref sig .tc := ⟨.hbm, 317, rfl⟩
abbrev main_v107 : Ref sig .tc := ⟨.hbm, 318, rfl⟩
abbrev main_v108 : Ref sig .tc := ⟨.hbm, 319, rfl⟩
abbrev main_cst_26 : Ref sig .tc := ⟨.hbm, 320, rfl⟩
abbrev main_v109 : Ref sig .tc := ⟨.hbm, 321, rfl⟩
abbrev main_v110 : Ref sig .tc := ⟨.hbm, 322, rfl⟩
abbrev main_v111 : Ref sig .tc := ⟨.hbm, 323, rfl⟩
abbrev main_v112 : Ref sig .tc := ⟨.hbm, 324, rfl⟩
abbrev main_v113 : Ref sig .tc := ⟨.hbm, 325, rfl⟩
abbrev main_cst_27 : Ref sig .tc := ⟨.hbm, 326, rfl⟩
abbrev main_v114 : Ref sig .tc := ⟨.hbm, 327, rfl⟩
abbrev main_v115 : Ref sig .tc := ⟨.hbm, 328, rfl⟩
abbrev main_cst_28 : Ref sig .tc := ⟨.hbm, 329, rfl⟩
abbrev main_v116 : Ref sig .tc := ⟨.hbm, 330, rfl⟩
abbrev main_v117 : Ref sig .tc := ⟨.hbm, 331, rfl⟩
abbrev main_v118 : Ref sig .tc := ⟨.hbm, 332, rfl⟩
abbrev main_v119 : Ref sig .tc := ⟨.hbm, 333, rfl⟩
abbrev main_cst_29 : Ref sig .tc := ⟨.hbm, 334, rfl⟩
abbrev main_v120 : Ref sig .tc := ⟨.hbm, 335, rfl⟩
abbrev main_v121 : Ref sig .tc := ⟨.hbm, 336, rfl⟩
abbrev main_v122 : Ref sig .tc := ⟨.hbm, 337, rfl⟩
abbrev main_v123 : Ref sig .tc := ⟨.hbm, 338, rfl⟩
abbrev main_v124 : Ref sig .tc := ⟨.hbm, 339, rfl⟩
abbrev main_v125 : Ref sig .tc := ⟨.hbm, 340, rfl⟩
abbrev main_v126 : Ref sig .tc := ⟨.hbm, 341, rfl⟩
abbrev main_v127 : Ref sig .tc := ⟨.hbm, 342, rfl⟩
abbrev main_v128 : Ref sig .tc := ⟨.hbm, 343, rfl⟩
abbrev main_v129 : Ref sig .tc := ⟨.hbm, 344, rfl⟩
abbrev main_v130 : Ref sig .tc := ⟨.hbm, 345, rfl⟩
abbrev main_call13_cst : Ref sig .tc := ⟨.hbm, 346, rfl⟩
abbrev main_call13_v0 : Ref sig .tc := ⟨.hbm, 347, rfl⟩
abbrev main_v131 : Ref sig .tc := ⟨.hbm, 348, rfl⟩
abbrev main_v132 : Ref sig .tc := ⟨.hbm, 349, rfl⟩
abbrev main_v133 : Ref sig .tc := ⟨.hbm, 350, rfl⟩
abbrev main_v134 : Ref sig .tc := ⟨.hbm, 351, rfl⟩
abbrev main_v135 : Ref sig .tc := ⟨.hbm, 352, rfl⟩
abbrev main_v136 : Ref sig .tc := ⟨.hbm, 353, rfl⟩
abbrev main_v137 : Ref sig .tc := ⟨.hbm, 354, rfl⟩
abbrev main_cst_30 : Ref sig .tc := ⟨.hbm, 355, rfl⟩
abbrev main_call14_v0 : Ref sig .tc := ⟨.hbm, 356, rfl⟩
abbrev main_call14_v1 : Ref sig .tc := ⟨.hbm, 357, rfl⟩
abbrev main_call14_v2 : Ref sig .tc := ⟨.hbm, 358, rfl⟩
abbrev main_v138 : Ref sig .tc := ⟨.hbm, 359, rfl⟩

abbrev nD : Nat := 1
abbrev τ : Topo := Topo.v7x

variable {F : FTy → Type} [FloatOps F]
-- ==== Proof.LayerNorm.lean ====
/- The layer norm of a projection, over the extended reals, and the two forms of it that meet in this
   certificate: the reference centres the projected row, the kernel projects by a matrix whose rows are
   centred already and, for the two wide projections, takes the variance as a quadratic form of the row.
   For finite rows and matrices the forms are one real number, moved back at the end. -/
module

public import Idealize.ShloMosaic.PureOps
public import Idealize.ShloMosaic.Lib.IdealHost

@[expose] public section

noncomputable section

namespace Cert.Proof.LN

open Idealize.ShloMosaic
open scoped BigOperators

/-- The row length of the model, as the number the programs divide by. -/
def c256 : EReal := Ideal.ofBits .f32 0x43800000#32
/-- Its inverse, as the number the kernel multiplies by. -/
def i256 : EReal := Ideal.ofBits .f32 0x3B800000#32
/-- The layer norm's epsilon, the f32 nearest 1e-5. -/
def eps : EReal := Ideal.ofBits .f32 0x3727C5AC#32

/-- The divisor is exactly 256. -/
theorem c256_eq : c256 = ((256 : ℝ) : EReal) := by
  unfold c256; simp [Ideal.ofBits, Ideal.ieee, -EReal.coe_mul]; norm_num
/-- The multiplier is exactly 1/256. -/
theorem i256_eq : i256 = ((1 / 256 : ℝ) : EReal) := by
  unfold i256; simp [Ideal.ofBits, Ideal.ieee, -EReal.coe_mul]; norm_num
/-- The epsilon is a positive real. -/
theorem eps_eq : ∃ e : ℝ, 0 < e ∧ eps = (e : EReal) := by
  refine ⟨_, ?_, by unfold eps; simp [Ideal.ofBits, Ideal.ieee, -EReal.coe_mul]; rfl⟩
  positivity

/-- A sum of reals, moved into the extended reals term by term. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, moved into the extended reals. -/
theorem coe_max (a b : ℝ) : ((max a b : ℝ) : EReal) = max (a : EReal) (b : EReal) :=
  EReal.coe_strictMono.monotone.map_max

/-- The square root of a nonnegative real. -/
theorem sqrt_coe {r : ℝ} (h : 0 ≤ r) : Ideal.sqrt (r : EReal) = (Real.sqrt r : EReal) := by
  show (if r < 0 then ⊥ else (Real.sqrt r : EReal)) = _
  rw [if_neg (not_lt.mpr h)]

/-- The reciprocal square root of a positive real. -/
theorem rsqrt_coe {r : ℝ} (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg (not_lt.mpr h.le), if_neg h.ne']

/-- The quotient by a nonzero real. -/
theorem div_coe (a : ℝ) {b : ℝ} (h : b ≠ 0) : Ideal.div (a : EReal) (b : EReal) = ((a / b : ℝ) : EReal) := by
  unfold Ideal.div
  rw [if_neg (by exact_mod_cast h), ← EReal.coe_inv, ← EReal.coe_mul, div_eq_mul_inv]

/-- The projection of a row. -/
def proj {K : ℕ} (x : Fin K → EReal) (W : Fin K → Fin 256 → EReal) (j : Fin 256) : EReal := ∑ k, x k * W k j

/-- The mean of a row of 256. -/
def mean (y : Fin 256 → EReal) : EReal := Ideal.div (∑ j, y j) c256

/-- The reference's layer norm of a row, without gain and offset, then the positive part. -/
def lnRelu (y : Fin 256 → EReal) (j : Fin 256) : EReal :=
  max (Ideal.div (y j - mean y) (Ideal.sqrt (mean (fun i => (y i - mean y) * (y i - mean y)) + eps))) 0

/-- A matrix with the mean of each row taken off. -/
def centred {K : ℕ} (W : Fin K → Fin 256 → EReal) (k : Fin K) (j : Fin 256) : EReal := W k j - mean (W k)

/-- The products of the centred rows. -/
def gram {K : ℕ} (W : Fin K → Fin 256 → EReal) (a b : Fin K) : EReal := ∑ j, centred W a j * centred W b j

/-- The kernel's form for the wide projections: centred matrix, variance as a quadratic form, mask inside. -/
def quadRelu {K : ℕ} (x : Fin K → EReal) (W : Fin K → Fin 256 → EReal) (a : EReal) (j : Fin 256) : EReal :=
  max (proj x (centred W) j * (Ideal.rsqrt ((∑ p, (∑ q, x q * gram W q p) * x p) * i256 + eps) * a)) 0

/-- The kernel's form for the narrow projection: centred matrix, variance of the projected row, mask inside. -/
def rowRelu {K : ℕ} (x : Fin K → EReal) (W : Fin K → Fin 256 → EReal) (a : EReal) (j : Fin 256) : EReal :=
  max (proj x (centred W) j * (Ideal.rsqrt (Ideal.div (∑ i, proj x (centred W) i * proj x (centred W) i) c256 + eps) * a)) 0

section Real

variable {K : ℕ} (x : Fin K → ℝ) (W : Fin K → Fin 256 → ℝ)

/-- The projected row in the reals. -/
def rproj (j : Fin 256) : ℝ := ∑ k, x k * W k j
/-- The mean in the reals. -/
def rmean (y : Fin 256 → ℝ) : ℝ := (∑ j, y j) / 256
/-- The centred matrix in the reals. -/
def rcentred (k : Fin K) (j : Fin 256) : ℝ := W k j - rmean (W k)

/-- The mean of a row of reals is the real mean. -/
theorem mean_coe (y : Fin 256 → ℝ) : mean (fun j => (y j : EReal)) = (rmean y : EReal) := by
  unfold mean rmean; rw [c256_eq, ← coe_sum, div_coe _ (by norm_num)]

/-- The projection of a row of reals is the real projection. -/
theorem proj_coe (V : Fin K → Fin 256 → ℝ) (j : Fin 256) :
    proj (fun k => (x k : EReal)) (fun k j => (V k j : EReal)) j = (rproj x V j : EReal) := by
  unfold proj rproj; rw [coe_sum]; simp only [EReal.coe_mul]

/-- Centring a matrix of reals is the real centring. -/
theorem centred_coe : centred (fun k j => (W k j : EReal)) = fun k j => (rcentred W k j : EReal) := by
  funext k j
  unfold centred rcentred; rw [mean_coe, ← EReal.coe_sub]

/-- Centring the matrix's rows centres every projected row. -/
theorem rproj_centred (j : Fin 256) : rproj x (rcentred W) j = rproj x W j - rmean (rproj x W) := by
  unfold rproj rcentred rmean
  simp only [mul_sub, Finset.sum_sub_distrib]
  congr 1
  rw [Finset.sum_comm, Finset.sum_div]
  refine Finset.sum_congr rfl fun k _ => ?_
  rw [← Finset.mul_sum, mul_div_assoc]

/-- The sum of the squares of a projected row is the quadratic form of the matrix's Gram matrix. -/
theorem rquad (V : Fin K → Fin 256 → ℝ) :
    (∑ p, (∑ q, x q * ∑ j, V q j * V p j) * x p) = ∑ j, rproj x V j * rproj x V j := by
  unfold rproj
  calc (∑ p, (∑ q, x q * ∑ j, V q j * V p j) * x p)
      = ∑ p, ∑ q, ∑ j, x q * V q j * (x p * V p j) := by
        refine Finset.sum_congr rfl fun p _ => ?_
        rw [Finset.sum_mul]
        refine Finset.sum_congr rfl fun q _ => ?_
        rw [Finset.mul_sum, Finset.sum_mul]
        exact Finset.sum_congr rfl fun j _ => by ring
    _ = ∑ j, ∑ p, ∑ q, x q * V q j * (x p * V p j) := by
        rw [Finset.sum_congr rfl fun p _ => Finset.sum_comm, Finset.sum_comm]
    _ = _ := by
        refine Finset.sum_congr rfl fun j _ => ?_
        rw [Finset.sum_mul_sum, Finset.sum_comm]

/-- The variance in the reals, of the centred projected row. -/
def rvar : ℝ := (∑ j, rproj x (rcentred W) j * rproj x (rcentred W) j) / 256

/-- The variance is not negative. -/
theorem rvar_nonneg : 0 ≤ rvar x W := div_nonneg (Finset.sum_nonneg fun _ _ => mul_self_nonneg _) (by norm_num)

/-- The reference's form is the real layer norm. -/
theorem lnRelu_coe (e : ℝ) (he : 0 < e) (hε : eps = (e : EReal)) (j : Fin 256) :
    lnRelu (proj (fun k => (x k : EReal)) (fun k j => (W k j : EReal))) j
      = ((max (rproj x (rcentred W) j * (Real.sqrt (rvar x W + e))⁻¹) 0 : ℝ) : EReal) := by
  have hpos : 0 < rvar x W + e := add_pos_of_nonneg_of_pos (rvar_nonneg x W) he
  have hy : proj (fun k => (x k : EReal)) (fun k j => (W k j : EReal)) = fun j => (rproj x W j : EReal) :=
    funext (proj_coe x W)
  have hd : ∀ i, ((rproj x W i : ℝ) : EReal) - (rmean (rproj x W) : EReal) = (rproj x (rcentred W) i : EReal) := fun i => by
    rw [rproj_centred, EReal.coe_sub]
  unfold lnRelu
  rw [hy, mean_coe]
  simp only [hd, ← EReal.coe_mul]
  rw [mean_coe, hε, ← EReal.coe_add]
  rw [show rmean (fun i => rproj x (rcentred W) i * rproj x (rcentred W) i) = rvar x W from rfl, sqrt_coe hpos.le,
    div_coe _ (Real.sqrt_pos.mpr hpos).ne', div_eq_mul_inv, ← EReal.coe_zero, ← coe_max]

/-- The kernel's wide form is the real layer norm times the mask. -/
theorem quadRelu_coe (e : ℝ) (he : 0 < e) (hε : eps = (e : EReal)) (a : ℝ) (j : Fin 256) :
    quadRelu (fun k => (x k : EReal)) (fun k j => (W k j : EReal)) (a : EReal) j
      = ((max (rproj x (rcentred W) j * ((Real.sqrt (rvar x W + e))⁻¹ * a)) 0 : ℝ) : EReal) := by
  have hpos : 0 < rvar x W + e := add_pos_of_nonneg_of_pos (rvar_nonneg x W) he
  unfold quadRelu gram
  rw [centred_coe]
  simp only [← EReal.coe_mul, ← coe_sum]
  rw [rquad, i256_eq, hε, proj_coe, ← EReal.coe_mul, ← EReal.coe_add,
    show (∑ j, rproj x (rcentred W) j * rproj x (rcentred W) j) * (1 / 256) = rvar x W by unfold rvar; ring,
    rsqrt_coe hpos, ← EReal.coe_mul, ← EReal.coe_mul, ← EReal.coe_zero, ← coe_max]

/-- The kernel's narrow form is the real layer norm times the mask. -/
theorem rowRelu_coe (e : ℝ) (he : 0 < e) (hε : eps = (e : EReal)) (a : ℝ) (j : Fin 256) :
    rowRelu (fun k => (x k : EReal)) (fun k j => (W k j : EReal)) (a : EReal) j
      = ((max (rproj x (rcentred W) j * ((Real.sqrt (rvar x W + e))⁻¹ * a)) 0 : ℝ) : EReal) := by
  have hpos : 0 < rvar x W + e := add_pos_of_nonneg_of_pos (rvar_nonneg x W) he
  unfold rowRelu
  rw [centred_coe]
  simp only [proj_coe, ← EReal.coe_mul, ← coe_sum]
  rw [c256_eq, hε, div_coe _ (by norm_num), ← EReal.coe_add,
    show (∑ j, rproj x (rcentred W) j * rproj x (rcentred W) j) / 256 = rvar x W from rfl,
    rsqrt_coe hpos, ← EReal.coe_mul, ← EReal.coe_mul, ← EReal.coe_zero, ← coe_max]

end Real

/-- A 0/1 mask, as the number the kernel multiplies by and as a case distinction. -/
def bit (p : Prop) [Decidable p] : EReal := if p then 1 else 0

/-- A family of extended reals none of which is infinite is a family of reals. -/
theorem lift1 {ι : Type} {f : ι → EReal} (h : ∀ i, f i ≠ ⊤ ∧ f i ≠ ⊥) : ∃ r : ι → ℝ, f = fun i => (r i : EReal) :=
  ⟨fun i => (f i).toReal, funext fun i => (EReal.coe_toReal (h i).1 (h i).2).symm⟩

/-- The same for a matrix. -/
theorem lift2 {ι κ : Type} {f : ι → κ → EReal} (h : ∀ i j, f i j ≠ ⊤ ∧ f i j ≠ ⊥) :
    ∃ r : ι → κ → ℝ, f = fun i j => (r i j : EReal) :=
  ⟨fun i j => (f i j).toReal, funext fun i => funext fun j => (EReal.coe_toReal (h i j).1 (h i j).2).symm⟩

section Meet

variable {K : ℕ} {x : Fin K → EReal} {W : Fin K → Fin 256 → EReal}

/-- **Wide projections.** For a finite row and matrix the kernel's masked form is the reference's layer norm where the
    mask is on and zero where it is off. -/
theorem quadRelu_eq (hx : ∀ k, x k ≠ ⊤ ∧ x k ≠ ⊥) (hW : ∀ k j, W k j ≠ ⊤ ∧ W k j ≠ ⊥) (p : Prop) [Decidable p]
    (j : Fin 256) : quadRelu x W (bit p) j = if p then lnRelu (proj x W) j else 0 := by
  obtain ⟨e, he, hε⟩ := eps_eq
  obtain ⟨x, rfl⟩ := lift1 hx
  obtain ⟨W, rfl⟩ := lift2 hW
  unfold bit
  by_cases hp : p
  · rw [if_pos hp, if_pos hp, ← EReal.coe_one, quadRelu_coe x W e he hε, lnRelu_coe x W e he hε, mul_one]
  · rw [if_neg hp, if_neg hp, ← EReal.coe_zero, quadRelu_coe x W e he hε]; simp

/-- **The narrow projection**, the same. -/
theorem rowRelu_eq (hx : ∀ k, x k ≠ ⊤ ∧ x k ≠ ⊥) (hW : ∀ k j, W k j ≠ ⊤ ∧ W k j ≠ ⊥) (p : Prop) [Decidable p]
    (j : Fin 256) : rowRelu x W (bit p) j = if p then lnRelu (proj x W) j else 0 := by
  obtain ⟨e, he, hε⟩ := eps_eq
  obtain ⟨x, rfl⟩ := lift1 hx
  obtain ⟨W, rfl⟩ := lift2 hW
  unfold bit
  by_cases hp : p
  · rw [if_pos hp, if_pos hp, ← EReal.coe_one, rowRelu_coe x W e he hε, lnRelu_coe x W e he hε, mul_one]
  · rw [if_neg hp, if_neg hp, ← EReal.coe_zero, rowRelu_coe x W e he hε]; simp

end Meet

end Cert.Proof.LN

end
-- ==== Proof.Words.lean ====
/- The words in which the kernel packs a token's table rows: four or two fields of eight bits to a 32-bit word,
   taken out again by an arithmetic shift and a mask. What was put in comes out. -/
module

public import Idealize.ShloMosaic.PureOps
public import Idealize.ShloMosaic.Lib.ValueIdxCore
public import Mathlib.Tactic.IntervalCases

@[expose] public section

namespace Cert.Proof.Words

open Idealize.ShloMosaic

/-- A word below 256 is an eight-bit word widened. -/
theorem byte_eq {x : BitVec 32} (h : x.toNat < 256) : x = (x.setWidth 8).setWidth 32 := by
  apply BitVec.eq_of_toNat_eq
  simp only [BitVec.toNat_setWidth]
  omega

/-- Four eight-bit fields in a word. -/
def pack (x y z w : BitVec 32) : BitVec 32 :=
  IntOp.ori (IntOp.ori (IntOp.ori x (IntOp.shli .vector y 8#32)) (IntOp.shli .vector z 16#32)) (IntOp.shli .vector w 24#32)

/-- The low eight bits of a word, as a 16-bit word. -/
def low (x : BitVec 32) : BitVec 16 := (IntOp.andi x 255#32).setWidth 16
/-- The eight bits from bit `s` of a word, as a 16-bit word. -/
def field (x s : BitVec 32) : BitVec 16 := (IntOp.andi (IntOp.shrsi .vector x s) 255#32).setWidth 16

/-- Shifting left by 8. -/
theorem shl8 (x : BitVec 32) : IntOp.shli .vector x 8#32 = x <<< 8 := rfl
/-- Shifting left by 16. -/
theorem shl16 (x : BitVec 32) : IntOp.shli .vector x 16#32 = x <<< 16 := rfl
/-- Shifting left by 24. -/
theorem shl24 (x : BitVec 32) : IntOp.shli .vector x 24#32 = x <<< 24 := rfl
/-- Shifting right by 8, keeping the sign. -/
theorem shr8 (x : BitVec 32) : IntOp.shrsi .vector x 8#32 = x.sshiftRight 8 := rfl
/-- Shifting right by 16, keeping the sign. -/
theorem shr16 (x : BitVec 32) : IntOp.shrsi .vector x 16#32 = x.sshiftRight 16 := rfl
/-- Shifting right by 24, keeping the sign. -/
theorem shr24 (x : BitVec 32) : IntOp.shrsi .vector x 24#32 = x.sshiftRight 24 := rfl

/-- Each of the four fields comes out as it was put in: on eight-bit words widened. -/
theorem fields8 (x y z w : BitVec 8) :
    (x.setWidth 32 ||| y.setWidth 32 <<< 8 ||| z.setWidth 32 <<< 16 ||| w.setWidth 32 <<< 24) &&& 255#32 = x.setWidth 32
    ∧ (x.setWidth 32 ||| y.setWidth 32 <<< 8 ||| z.setWidth 32 <<< 16 ||| w.setWidth 32 <<< 24).sshiftRight 8 &&& 255#32 = y.setWidth 32
    ∧ (x.setWidth 32 ||| y.setWidth 32 <<< 8 ||| z.setWidth 32 <<< 16 ||| w.setWidth 32 <<< 24).sshiftRight 16 &&& 255#32 = z.setWidth 32
    ∧ (x.setWidth 32 ||| y.setWidth 32 <<< 8 ||| z.setWidth 32 <<< 16 ||| w.setWidth 32 <<< 24).sshiftRight 24 &&& 255#32 = w.setWidth 32 := by
  refine ⟨?_, ?_, ?_, ?_⟩ <;>
  · apply BitVec.eq_of_getLsbD_eq
    intro i hi
    interval_cases i <;> simp [BitVec.getLsbD_sshiftRight, BitVec.getElem_sshiftRight]

/-- Each of the four fields comes out as it was put in. -/
theorem fields {x y z w : BitVec 32} (hx : x.toNat < 256) (hy : y.toNat < 256) (hz : z.toNat < 256) (hw : w.toNat < 256) :
    low (pack x y z w) = x.setWidth 16 ∧ field (pack x y z w) 8#32 = y.setWidth 16
    ∧ field (pack x y z w) 16#32 = z.setWidth 16 ∧ field (pack x y z w) 24#32 = w.setWidth 16 := by
  have h := fields8 (x.setWidth 8) (y.setWidth 8) (z.setWidth 8) (w.setWidth 8)
  rw [← byte_eq hx, ← byte_eq hy, ← byte_eq hz, ← byte_eq hw] at h
  unfold low field pack
  rw [shr8, shr16, shr24, shl8, shl16, shl24]
  exact ⟨congrArg (BitVec.setWidth 16) h.1, congrArg (BitVec.setWidth 16) h.2.1, congrArg (BitVec.setWidth 16) h.2.2.1,
    congrArg (BitVec.setWidth 16) h.2.2.2⟩

/-- Two fields come out as they were put in. -/
theorem fields2 {x y : BitVec 32} (hx : x.toNat < 256) (hy : y.toNat < 256) :
    low (IntOp.ori x (IntOp.shli .vector y 8#32)) = x.setWidth 16
    ∧ field (IntOp.ori x (IntOp.shli .vector y 8#32)) 8#32 = y.setWidth 16 := by
  have h := fields (z := 0#32) (w := 0#32) hx hy (by decide) (by decide)
  have e : pack x y 0#32 0#32 = IntOp.ori x (IntOp.shli .vector y 8#32) := by
    unfold pack
    rw [show IntOp.shli .vector 0#32 16#32 = 0#32 by decide, show IntOp.shli .vector 0#32 24#32 = 0#32 by decide]
    simp [IntOp.ori]
  rw [e] at h
  exact ⟨h.1, h.2.1⟩

/-! ### One-bit words as propositions -/

/-- A truth value's bit is one exactly when it is true. -/
theorem ofBool_one (b : Bool) : BitVec.ofBool b = 1#1 ↔ b = true := by cases b <;> decide
/-- An or of bits is one exactly when one of them is. -/
theorem ori_one (a b : BitVec 1) : IntOp.ori a b = 1#1 ↔ a = 1#1 ∨ b = 1#1 := by
  revert a b; decide
/-- An and of bits is one exactly when both are. -/
theorem andi_one (a b : BitVec 1) : IntOp.andi a b = 1#1 ↔ a = 1#1 ∧ b = 1#1 := by
  revert a b; decide

/-- A lane number below 256 meets a field exactly when it is the field's number. -/
theorem lane_eq {w : BitVec 32} (hw : w.toNat < 256) {k : ℕ} (hk : k < 256) :
    IntOp.cmpi .eq (BitVec.setWidth 16 (BitVec.ofNat 32 k)) (w.setWidth 16) = 1#1 ↔ k = w.toNat := by
  show BitVec.ofBool (_ == _) = 1#1 ↔ _
  rw [ofBool_one, beq_iff_eq]
  constructor
  · intro h
    have := congrArg BitVec.toNat h
    simp only [BitVec.toNat_setWidth, BitVec.toNat_ofNat] at this
    omega
  · rintro rfl
    simp

/-! ### The tests and the clips -/

/-- The token is padding: its id is negative. -/
def Pad (id : BitVec 32) : Prop := id.toInt < 0
instance (id : BitVec 32) : Decidable (Pad id) := inferInstanceAs (Decidable (_ < _))
/-- The token is a card. -/
def Card (id : BitVec 32) : Prop := 8 ≤ id.toInt ∧ id.toInt < 60
instance (id : BitVec 32) : Decidable (Card id) := inferInstanceAs (Decidable (_ ∧ _))
/-- The token is an action. -/
def Act (id : BitVec 32) : Prop := 60 ≤ id.toInt ∧ id.toInt < 92
instance (id : BitVec 32) : Decidable (Act id) := inferInstanceAs (Decidable (_ ∧ _))

/-- The signed test for less, decided. -/
theorem slt_one (x y : BitVec 32) : IntOp.cmpi .slt x y = 1#1 ↔ x.toInt < y.toInt := by
  show BitVec.ofBool (x.slt y) = 1#1 ↔ _
  rw [ofBool_one, BitVec.slt_iff_toInt_lt]
/-- The signed test for at least, decided. -/
theorem sge_one (x y : BitVec 32) : IntOp.cmpi .sge x y = 1#1 ↔ y.toInt ≤ x.toInt := by
  show BitVec.ofBool (y.sle x) = 1#1 ↔ _
  rw [ofBool_one, BitVec.sle_iff_toInt_le]
/-- The signed test for at most, decided. -/
theorem sle_one (x y : BitVec 32) : IntOp.cmpi .sle x y = 1#1 ↔ x.toInt ≤ y.toInt := by
  show BitVec.ofBool (x.sle y) = 1#1 ↔ _
  rw [ofBool_one, BitVec.sle_iff_toInt_le]
/-- The test for equal words, decided. -/
theorem eq_one (x y : BitVec 32) : IntOp.cmpi .eq x y = 1#1 ↔ x = y := by
  show BitVec.ofBool (x == y) = 1#1 ↔ _
  rw [ofBool_one, beq_iff_eq]

/-- `min hi (max 0 x)` on signed words. -/
def clip (hi x : BitVec 32) : BitVec 32 := IntOp.minsi hi (IntOp.maxsi 0#32 x)

/-- A clip to `0 … n` lands there. -/
theorem clip_le {n : ℕ} (hn : n < 2 ^ 31) (x : BitVec 32) : (clip (BitVec.ofNat 32 n) x).toNat ≤ n := by
  have h1 : (BitVec.ofNat 32 n).toInt = n := by rw [BitVec.toInt_eq_toNat_cond, BitVec.toNat_ofNat]; omega
  have h0 : (0#32 : BitVec 32).toInt = 0 := by decide
  unfold clip IntOp.minsi IntOp.maxsi
  simp only [BitVec.slt_eq_decide, BitVec.sle_eq_decide, decide_eq_true_eq, h1, h0]
  have hx := BitVec.toInt_eq_toNat_cond x
  have hb := x.isLt
  split_ifs <;> simp_all [BitVec.toNat_ofNat] <;> omega

/-- The positive part of a selected word. -/
theorem select_iff {α : Type} {b : BitVec 1} {p : Prop} [Decidable p] (h : b = 1#1 ↔ p) (x y : α) :
    Scalar.select b x y = if p then x else y := by
  unfold Scalar.select
  by_cases hp : p
  · rw [if_pos hp]; exact if_pos (h.mpr hp)
  · rw [if_neg hp]; exact if_neg (fun hb => hp (h.mp hb))

end Cert.Proof.Words
-- ==== Proof.Token.lean ====
/- What one token of the embedding is, as a function of its words and of the tables, and what the kernel's two masks of
   table rows select: the rows of the tables stacked in one, a sum of at most five of them. -/
module

public import proofs.«01_k».proof.Proof.LayerNorm
public import proofs.«01_k».proof.Proof.Words

@[expose] public section

noncomputable section

namespace Cert.Proof.Token

open Idealize.ShloMosaic Cert.Proof.LN Cert.Proof.Words
open scoped BigOperators

/-- Row `k` of a table's column, nothing past its end. -/
def pick {n : ℕ} (T : Fin n → EReal) (k : ℕ) : EReal := if h : k < n then T ⟨k, h⟩ else 0

/-- An index inside the table reads the table. -/
theorem pick_lt {n : ℕ} (T : Fin n → EReal) {k : ℕ} (h : k < n) : pick T k = T ⟨k, h⟩ := dif_pos h
/-- An index past its end reads zero. -/
theorem pick_ge {n : ℕ} (T : Fin n → EReal) {k : ℕ} (h : n ≤ k) : pick T k = 0 := dif_neg (by omega)

/-- A one-hot row times a column is the column's entry. -/
theorem sum_bit {n : ℕ} (T : Fin n → EReal) (a : ℕ) : ∑ k : Fin n, bit (k.val = a) * T k = pick T a := by
  unfold bit
  by_cases h : a < n
  · rw [pick_lt T h, Finset.sum_eq_single ⟨a, h⟩]
    · simp
    · intro b _ hb
      rw [if_neg (fun e => hb (Fin.ext e)), zero_mul]
    · simp
  · rw [pick_ge T (by omega)]
    exact Finset.sum_eq_zero fun k _ => by rw [if_neg (by omega), zero_mul]

/-- An alternative of two tests never both met selects the sum. -/
theorem bit_or_mul {p q : Prop} [Decidable p] [Decidable q] (h : ¬(p ∧ q)) (t : EReal) :
    bit (p ∨ q) * t = bit p * t + bit q * t := by
  unfold bit
  by_cases hp : p <;> by_cases hq : q <;> simp [hp, hq]
  exact (h ⟨hp, hq⟩).elim

/-- Five positions no two of which meet below `n`: their rows, added. -/
theorem sum_five {n : ℕ} (T : Fin n → EReal) (a b c d e : ℕ)
    (h : ∀ k, k < n → ¬((k = a ∨ k = b ∨ k = c ∨ k = d) ∧ k = e) ∧ ¬((k = a ∨ k = b ∨ k = c) ∧ k = d)
      ∧ ¬((k = a ∨ k = b) ∧ k = c) ∧ ¬(k = a ∧ k = b)) :
    ∑ k : Fin n, bit ((((k.val = a ∨ k.val = b) ∨ k.val = c) ∨ k.val = d) ∨ k.val = e) * T k
      = pick T a + pick T b + pick T c + pick T d + pick T e := by
  have hk : ∀ k : Fin n, bit ((((k.val = a ∨ k.val = b) ∨ k.val = c) ∨ k.val = d) ∨ k.val = e) * T k
      = bit (k.val = a) * T k + bit (k.val = b) * T k + bit (k.val = c) * T k + bit (k.val = d) * T k + bit (k.val = e) * T k := by
    intro k
    obtain ⟨h1, h2, h3, h4⟩ := h k.val k.isLt
    rw [bit_or_mul (by tauto), bit_or_mul (by tauto), bit_or_mul (by tauto), bit_or_mul (by tauto)]
  simp only [hk, Finset.sum_add_distrib, sum_bit]

/-! ### The token's words -/

section Words

variable (id st rk su ac : BitVec 32)

/-- Position of the token's row among the stacked tables: the base table first. -/
def nBase : ℕ := if Pad id then 255 else id.toNat
/-- The street's row. -/
def nStreet : ℕ := if Pad id then 255 else st.toNat + 93
/-- The rank's row. -/
def nRank : ℕ := if Card id then (clip 12#32 rk).toNat + 97 else 255
/-- The suit's row. -/
def nSuit : ℕ := if Card id then (clip 3#32 su).toNat + 110 else 255
/-- The actor's row. -/
def nActor : ℕ := if Act id then (clip 1#32 ac).toNat + 114 else 255
/-- The action type's row in its own table. -/
def nType : ℕ := if Act id then (clip 31#32 (IntOp.subi id 60#32)).toNat else 255

/-- The words the kernel packs. -/
def padW : BitVec 1 := IntOp.cmpi .slt id 0#32
/-- The test for a card, as a word. -/
def cardW : BitVec 1 := IntOp.andi (IntOp.cmpi .sge id 8#32) (IntOp.cmpi .slt id 60#32)
/-- The test for an action, as a word. -/
def actW : BitVec 1 := IntOp.andi (IntOp.cmpi .sge id 60#32) (IntOp.cmpi .slt id 92#32)
/-- The base table's field. -/
def wBase : BitVec 32 := Scalar.select (padW id) 255#32 id
/-- The street's field. -/
def wStreet : BitVec 32 := Scalar.select (padW id) 255#32 (IntOp.addi st 93#32)
/-- The rank's field. -/
def wRank : BitVec 32 := Scalar.select (cardW id) (IntOp.addi (clip 12#32 rk) 97#32) 255#32
/-- The suit's field. -/
def wSuit : BitVec 32 := Scalar.select (cardW id) (IntOp.addi (clip 3#32 su) 110#32) 255#32
/-- The actor's field. -/
def wActor : BitVec 32 := Scalar.select (actW id) (IntOp.addi (clip 1#32 ac) 114#32) 255#32
/-- The bet's field. -/
def wType : BitVec 32 := Scalar.select (actW id) (clip 31#32 (IntOp.subi id 60#32)) 255#32

/-- Lane `k` of the mask over the stacked tables. -/
def maskA (k : ℕ) : BitVec 1 :=
  let A := pack (wBase id) (wStreet id st) (wRank id rk) (wSuit id su)
  let B := IntOp.ori (wActor id ac) (IntOp.shli .vector (wType id) 8#32)
  let L := BitVec.setWidth 16 (BitVec.ofNat 32 k)
  IntOp.ori (IntOp.ori (IntOp.ori (IntOp.ori (IntOp.cmpi .eq L (low A)) (IntOp.cmpi .eq L (field A 8#32)))
    (IntOp.cmpi .eq L (field A 16#32))) (IntOp.cmpi .eq L (field A 24#32))) (IntOp.cmpi .eq L (low B))

/-- Lane `k` of the mask over the action types. -/
def maskB (k : ℕ) : BitVec 1 :=
  let B := IntOp.ori (wActor id ac) (IntOp.shli .vector (wType id) 8#32)
  IntOp.cmpi .eq (BitVec.setWidth 16 (BitVec.ofNat 32 k)) (field B 8#32)

/-- The padding test, decided. -/
theorem padW_one : padW id = 1#1 ↔ Pad id := by unfold padW Pad; rw [slt_one]; rfl
/-- The card test, decided. -/
theorem cardW_one : cardW id = 1#1 ↔ Card id := by
  unfold cardW Card; rw [andi_one, sge_one, slt_one]; rfl
/-- The action test, decided. -/
theorem actW_one : actW id = 1#1 ↔ Act id := by
  unfold actW Act; rw [andi_one, sge_one, slt_one]; rfl

variable {id st}

/-- The packed words hold the positions, each below 256. -/
theorem wBase_nat (hid : id.toInt ≤ 92) : (wBase id).toNat = nBase id ∧ nBase id < 256 := by
  unfold wBase nBase
  rw [select_iff (padW_one id)]
  by_cases h : Pad id
  · simp [h]
  · rw [if_neg h, if_neg h]
    unfold Pad at h
    have := BitVec.toInt_eq_toNat_cond id
    refine ⟨rfl, ?_⟩
    split_ifs at this <;> omega
/-- The street's field as a number below 256. -/
theorem wStreet_nat (hst : st.toNat < 4) : (wStreet id st).toNat = nStreet id st ∧ nStreet id st < 256 := by
  unfold wStreet nStreet
  rw [select_iff (padW_one id)]
  by_cases h : Pad id
  · simp [h]
  · rw [if_neg h, if_neg h]
    unfold IntOp.addi
    rw [BitVec.toNat_add]
    simp only [BitVec.toNat_ofNat]
    omega
/-- A masked field of a clipped word, as a number: the clipped word past its offset where the mask is on, 255 elsewhere. -/
theorem clipped_nat {b : BitVec 1} {p : Prop} [Decidable p] (hb : b = 1#1 ↔ p) {n o : ℕ} (hn : n + o < 255) (x : BitVec 32) :
    (Scalar.select b (IntOp.addi (clip (BitVec.ofNat 32 n) x) (BitVec.ofNat 32 o)) 255#32).toNat
        = (if p then (clip (BitVec.ofNat 32 n) x).toNat + o else 255)
      ∧ (if p then (clip (BitVec.ofNat 32 n) x).toNat + o else 255) < 256 := by
  have hc := clip_le (n := n) (by omega) x
  rw [select_iff hb]
  by_cases h : p
  · simp only [if_pos h]
    unfold IntOp.addi
    rw [BitVec.toNat_add]
    simp only [BitVec.toNat_ofNat]
    omega
  · simp [if_neg h]
/-- The rank's field as a number below 256. -/
theorem wRank_nat : (wRank id rk).toNat = nRank id rk ∧ nRank id rk < 256 := clipped_nat (cardW_one id) (by norm_num) rk
/-- The suit's field as a number below 256. -/
theorem wSuit_nat : (wSuit id su).toNat = nSuit id su ∧ nSuit id su < 256 := clipped_nat (cardW_one id) (by norm_num) su
/-- The actor's field as a number below 256. -/
theorem wActor_nat : (wActor id ac).toNat = nActor id ac ∧ nActor id ac < 256 := clipped_nat (actW_one id) (by norm_num) ac
/-- The bet's field as a number below 256. -/
theorem wType_nat : (wType id).toNat = nType id ∧ nType id < 256 := by
  have := clipped_nat (actW_one id) (n := 31) (o := 0) (by norm_num) (IntOp.subi id 60#32)
  simpa [IntOp.addi, wType, nType] using this

/-- Lane `k` of the stacked mask is on exactly at the five positions. -/
theorem maskA_one (hid : id.toInt ≤ 92) (hst : st.toNat < 4) {k : ℕ} (hk : k < 256) :
    maskA id st rk su ac k = 1#1
      ↔ (((k = nBase id ∨ k = nStreet id st) ∨ k = nRank id rk) ∨ k = nSuit id su) ∨ k = nActor id ac := by
  obtain ⟨e0, l0⟩ := wBase_nat hid
  obtain ⟨e1, l1⟩ := wStreet_nat (id := id) hst
  obtain ⟨e2, l2⟩ := wRank_nat (id := id) rk
  obtain ⟨e3, l3⟩ := wSuit_nat (id := id) su
  obtain ⟨e4, l4⟩ := wActor_nat (id := id) ac
  obtain ⟨e5, l5⟩ := wType_nat (id := id)
  obtain ⟨f0, f1, f2, f3⟩ := fields (e0 ▸ l0) (e1 ▸ l1) (e2 ▸ l2) (e3 ▸ l3)
  obtain ⟨f4, -⟩ := fields2 (e4 ▸ l4) (e5 ▸ l5)
  unfold maskA
  dsimp only
  rw [ori_one, ori_one, ori_one, ori_one, f0, f1, f2, f3, f4, lane_eq (e0 ▸ l0) hk, lane_eq (e1 ▸ l1) hk,
    lane_eq (e2 ▸ l2) hk, lane_eq (e3 ▸ l3) hk, lane_eq (e4 ▸ l4) hk, e0, e1, e2, e3, e4]

/-- Lane `k` of the type mask is on exactly at the type's position. -/
theorem maskB_one {k : ℕ} (hk : k < 256) : maskB id ac k = 1#1 ↔ k = nType id := by
  obtain ⟨e4, l4⟩ := wActor_nat (id := id) ac
  obtain ⟨e5, l5⟩ := wType_nat (id := id)
  obtain ⟨-, f5⟩ := fields2 (e4 ▸ l4) (e5 ▸ l5)
  unfold maskB
  dsimp only
  rw [f5, lane_eq (e5 ▸ l5) hk, e5]

end Words

/-! ### The token -/

section Token

variable {id st : BitVec 32} (rk su ac : BitVec 32)

/-- A card is not padding. -/
theorem card_not_pad {id : BitVec 32} (h : Card id) : ¬Pad id := by unfold Card at h; unfold Pad; omega
/-- An action is not padding. -/
theorem act_not_pad {id : BitVec 32} (h : Act id) : ¬Pad id := by unfold Act at h; unfold Pad; omega
/-- An action is not a card. -/
theorem act_not_card {id : BitVec 32} (h : Act id) : ¬Card id := by unfold Act at h; unfold Card; omega

/-- The ranges of the five positions. -/
theorem ranges (hid : id.toInt ≤ 92) (hst : st.toNat < 4) :
    (nBase id ≤ 92 ∨ nBase id = 255) ∧ (93 ≤ nStreet id st ∧ nStreet id st ≤ 96 ∨ nStreet id st = 255)
    ∧ (97 ≤ nRank id rk ∧ nRank id rk ≤ 109 ∨ nRank id rk = 255) ∧ (110 ≤ nSuit id su ∧ nSuit id su ≤ 113 ∨ nSuit id su = 255)
    ∧ (114 ≤ nActor id ac ∧ nActor id ac ≤ 115 ∨ nActor id ac = 255) := by
  have c1 := clip_le (n := 12) (by norm_num) rk
  have c2 := clip_le (n := 3) (by norm_num) su
  have c3 := clip_le (n := 1) (by norm_num) ac
  refine ⟨?_, ?_, ?_, ?_, ?_⟩
  · unfold nBase
    split_ifs with h
    · exact Or.inr rfl
    · left
      unfold Pad at h
      have := BitVec.toInt_eq_toNat_cond id
      split_ifs at this <;> omega
  · unfold nStreet; split_ifs <;> omega
  · unfold nRank; split_ifs <;> omega
  · unfold nSuit; split_ifs <;> omega
  · unfold nActor; split_ifs <;> omega

/-- The stacked mask against a column of the stacked tables: the rows at the five positions. -/
theorem sum_maskA (hid : id.toInt ≤ 92) (hst : st.toNat < 4) (T : Fin 116 → EReal) :
    ∑ k : Fin 116, Scalar.select (maskA id st rk su ac k.val) (1 : EReal) 0 * T k
      = pick T (nBase id) + pick T (nStreet id st) + pick T (nRank id rk) + pick T (nSuit id su) + pick T (nActor id ac) := by
  obtain ⟨r0, r1, r2, r3, r4⟩ := ranges rk su ac hid hst
  rw [← sum_five T _ _ _ _ _ (fun k hk => by omega)]
  refine Finset.sum_congr rfl fun k _ => ?_
  rw [select_iff (maskA_one rk su ac hid hst (by omega : k.val < 256))]
  rfl

/-- The type mask against a column of the type table: the type's row. -/
theorem sum_maskB (T : Fin 32 → EReal) :
    ∑ k : Fin 32, Scalar.select (maskB id ac k.val) (1 : EReal) 0 * T k = pick T (nType id) := by
  rw [← sum_bit]
  refine Finset.sum_congr rfl fun k _ => ?_
  rw [select_iff (maskB_one ac (by omega : k.val < 256))]
  rfl

/-- The type mask's lanes add up to whether the token is an action. -/
theorem count_maskB : ∑ k : Fin 32, Scalar.select (maskB id ac k.val) (1 : EReal) 0 = bit (Act id) := by
  have h := sum_maskB (id := id) ac (fun _ => 1)
  simp only [mul_one] at h
  rw [h]
  have c := clip_le (n := 31) (by norm_num) (IntOp.subi id 60#32)
  unfold nType bit
  split_ifs with ha
  · rw [pick_lt _ (by omega)]
  · rw [pick_ge _ (by omega)]

/-- Lane 1 of the stacked mask: the token is the context token. -/
theorem lane_one (hid : id.toInt ≤ 92) (hst : st.toNat < 4) :
    Scalar.select (maskA id st rk su ac 1) (1 : EReal) 0 = bit (id = 1#32) := by
  obtain ⟨r0, r1, r2, r3, r4⟩ := ranges rk su ac hid hst
  rw [select_iff (maskA_one rk su ac hid hst (by norm_num : 1 < 256))]
  have : ((((1 = nBase id ∨ 1 = nStreet id st) ∨ 1 = nRank id rk) ∨ 1 = nSuit id su) ∨ 1 = nActor id ac) ↔ id = 1#32 := by
    constructor
    · intro h
      have h0 : 1 = nBase id := by omega
      unfold nBase at h0
      split_ifs at h0 with hp
      · exact absurd h0 (by norm_num)
      · exact BitVec.eq_of_toNat_eq (by simpa using h0.symm)
    · rintro rfl
      left; left; left; left
      decide
  unfold bit
  simp only [this]

end Token

/-- **One entry of the embedding** of one token: the padding token's is zero; otherwise the base and street rows, the
    rank and suit rows of a card, the actor and type rows and the legal-mask projection of an action, the class
    projection at position zero and the context projection of the context token. -/
def entry (id st rk su ac : BitVec 32) (base : Fin 93 → EReal) (street : Fin 4 → EReal) (rank : Fin 13 → EReal)
    (suit : Fin 4 → EReal) (actor : Fin 2 → EReal) (type : Fin 32 → EReal) (legal cls ctx : EReal) (first : Prop)
    [Decidable first] : EReal :=
  if Pad id then 0 else
    pick base id.toNat + pick street st.toNat
      + (if Card id then pick rank (clip 12#32 rk).toNat + pick suit (clip 3#32 su).toNat else 0)
      + (if Act id then pick actor (clip 1#32 ac).toNat + pick type (clip 31#32 (IntOp.subi id 60#32)).toNat + legal else 0)
      + (if first then cls else 0)
      + (if id = 1#32 then ctx else 0)

/-- **What the kernel adds up is the entry.** The five rows of the stacked tables, the type's row and the three masked
    projections. -/
theorem kernel_entry {id st : BitVec 32} (rk su ac : BitVec 32) (hid : id.toInt ≤ 92) (hst : st.toNat < 4)
    (base : Fin 93 → EReal) (street : Fin 4 → EReal) (rank : Fin 13 → EReal)
    (suit : Fin 4 → EReal) (actor : Fin 2 → EReal) (type : Fin 32 → EReal) (legal cls ctx : EReal) (first : Prop)
    [Decidable first] (T : Fin 116 → EReal)
    (h0 : ∀ k, k < 93 → pick T k = pick base k) (h1 : ∀ k, k < 4 → pick T (k + 93) = pick street k)
    (h2 : ∀ k, k < 13 → pick T (k + 97) = pick rank k) (h3 : ∀ k, k < 4 → pick T (k + 110) = pick suit k)
    (h4 : ∀ k, k < 2 → pick T (k + 114) = pick actor k) :
    pick T (nBase id) + pick T (nStreet id st) + pick T (nRank id rk) + pick T (nSuit id su) + pick T (nActor id ac)
        + pick type (nType id) + (if Act id then legal else 0) + (if id = 1#32 then ctx else 0)
        + (if first then (if ¬Pad id then cls else 0) else 0)
      = entry id st rk su ac base street rank suit actor type legal cls ctx first := by
  have hT : pick T 255 = 0 := pick_ge T (by norm_num)
  have hY : pick type 255 = 0 := pick_ge type (by norm_num)
  have c1 := clip_le (n := 12) (by norm_num) rk
  have c2 := clip_le (n := 3) (by norm_num) su
  have c3 := clip_le (n := 1) (by norm_num) ac
  have hone : id = 1#32 → ¬Pad id := by rintro rfl; decide
  have hcard : Card id → ¬Act id := fun h h' => act_not_card h' h
  unfold entry
  by_cases hp : Pad id
  · have hc : ¬Card id := fun h => card_not_pad h hp
    have ha : ¬Act id := fun h => act_not_pad h hp
    have h1' : ¬id = 1#32 := fun h => hone h hp
    simp [nBase, nStreet, nRank, nSuit, nActor, nType, hp, hc, ha, h1', hT, hY]
  · have hb : id.toNat < 93 := by
      unfold Pad at hp
      have := BitVec.toInt_eq_toNat_cond id
      split_ifs at this <;> omega
    simp only [nBase, nStreet, nRank, nSuit, nActor, nType, if_neg hp, if_pos hp, not_false_eq_true, if_true]
    rw [h0 _ hb, h1 _ hst]
    by_cases hc : Card id
    · have ha := hcard hc
      simp only [if_pos hc, if_neg ha, hT, hY, add_zero]
      rw [h2 _ (by omega), h3 _ (by omega)]
      ac_rfl
    · by_cases ha : Act id
      · simp only [if_pos ha, if_neg hc, hT, add_zero]
        rw [h4 _ (by omega)]
        ac_rfl
      · simp only [if_neg ha, if_neg hc, hT, hY, add_zero]
        ac_rfl

end Cert.Proof.Token

end
-- ==== Proof.Spec.lean ====
/- The embedding as a function of the argument arrays, and the domain on which both programs compute it. -/
module

public import proofs.«01_k».proof.Proof.Token
public import Idealize.ShloMosaic.Lib.Pointwise

@[expose] public section

noncomputable section

namespace Cert.Proof.Spec

open Idealize.ShloMosaic Cert.Proof.LN Cert.Proof.Words Cert.Proof.Token
open scoped BigOperators

/-- An array of words, an array of numbers. -/
abbrev Words2 (a b : ℕ) := (⟨2, ![a, b]⟩ : Shape).Idx → BitVec 32
/-- A row of numbers. -/
abbrev Reals1 (a : ℕ) := (⟨1, ![a]⟩ : Shape).Idx → EReal
/-- A matrix of numbers. -/
abbrev Reals2 (a b : ℕ) := (⟨2, ![a, b]⟩ : Shape).Idx → EReal
/-- A stack of matrices of numbers. -/
abbrev Reals3 (a b c : ℕ) := (⟨3, ![a, b, c]⟩ : Shape).Idx → EReal

/-- The twenty-five argument arrays. -/
structure Inputs where
  ids : Words2 1024 200
  streets : Words2 1024 200
  ranks : Words2 1024 200
  suits : Words2 1024 200
  actors : Words2 1024 200
  masks : Reals3 1024 200 32
  context : Reals3 1024 200 16
  base : Reals2 93 256
  street : Reals2 4 256
  rank : Reals2 13 256
  suit : Reals2 4 256
  actor : Reals2 2 256
  type : Reals2 32 256
  legalW : Reals2 32 256
  legalB : Reals1 256
  legalG : Reals1 256
  legalBeta : Reals1 256
  clsW : Reals2 3 256
  clsB : Reals1 256
  clsG : Reals1 256
  clsBeta : Reals1 256
  ctxW : Reals2 16 256
  ctxB : Reals1 256
  ctxG : Reals1 256
  ctxBeta : Reals1 256

/-- A finite number. -/
def Fin' (x : EReal) : Prop := x ≠ ⊤ ∧ x ≠ ⊥

/-- The domain of the claim: token words up to 92, streets below 4, finite features and wide projection matrices, and the
    layer norms' affine parts as they are initialised. -/
structure Inputs.Good (I : Inputs) : Prop where
  ids : ∀ i, (I.ids i).toInt ≤ 92
  streets : ∀ i, (I.streets i).toNat < 4
  masks : ∀ i, Fin' (I.masks i)
  context : ∀ i, Fin' (I.context i)
  legalW : ∀ i, Fin' (I.legalW i)
  ctxW : ∀ i, Fin' (I.ctxW i)
  legalB : ∀ i, I.legalB i = 0
  legalG : ∀ i, I.legalG i = 1
  legalBeta : ∀ i, I.legalBeta i = 0
  clsB : ∀ i, I.clsB i = 0
  clsG : ∀ i, I.clsG i = 1
  clsBeta : ∀ i, I.clsBeta i = 0
  ctxB : ∀ i, I.ctxB i = 0
  ctxG : ∀ i, I.ctxG i = 1
  ctxBeta : ∀ i, I.ctxBeta i = 0

variable (I : Inputs) (b : Fin 1024) (l : Fin 200) (j : Fin 256)

/-- The three projections of a token: of its legal mask, of its context, and of the first context's first three features. -/
def legal : EReal := lnRelu (proj (fun k : Fin 32 => I.masks (ix3 b l k)) (fun k i => I.legalW (ix2 k i))) j
/-- The layer norm of a token's context. -/
def ctx : EReal := lnRelu (proj (fun k : Fin 16 => I.context (ix3 b l k)) (fun k i => I.ctxW (ix2 k i))) j
/-- The layer norm of the first three features of the sequence's first context. -/
def cls : EReal := lnRelu (proj (fun k : Fin 3 => I.context (ix3 b 0 ⟨k.val, by omega⟩)) (fun k i => I.clsW (ix2 k i))) j

/-- Entry `j` of the embedding of token `l` of sequence `b`. -/
def embed : EReal :=
  entry (I.ids (ix2 b l)) (I.streets (ix2 b l)) (I.ranks (ix2 b l)) (I.suits (ix2 b l)) (I.actors (ix2 b l))
    (fun k => I.base (ix2 k j)) (fun k => I.street (ix2 k j)) (fun k => I.rank (ix2 k j)) (fun k => I.suit (ix2 k j))
    (fun k => I.actor (ix2 k j)) (fun k => I.type (ix2 k j)) (legal I b l j) (cls I b j) (ctx I b l j) (l = 0)

end Cert.Proof.Spec

end
-- ==== Proof.Infinite.lean ====
/- The narrow layer norm for any matrix: where an infinity reaches the projected row both forms are zero, and a matrix row
   that a zero feature meets does not count, be it finite or not. -/
module

public import proofs.«01_k».proof.Proof.LayerNorm

@[expose] public section

noncomputable section

namespace Cert.Proof.LN

open Idealize.ShloMosaic
open scoped BigOperators

/-- One of the two infinities. -/
def Inf (x : EReal) : Prop := x = ⊤ ∨ x = ⊥

/-- A sum with an infinite summand is infinite, -/
theorem Inf.add_left {a : EReal} (h : Inf a) (b : EReal) : Inf (a + b) := by
  rcases h with rfl | rfl
  · induction b with
    | bot => right; simp
    | coe r => left; simp
    | top => left; simp
  · right; simp

/-- and so is a sum over a finite set. -/
theorem Inf.sum {ι : Type} {s : Finset ι} {f : ι → EReal} {i : ι} (hi : i ∈ s) (h : Inf (f i)) : Inf (∑ k ∈ s, f k) := by
  classical
  rw [← Finset.add_sum_erase s f hi]
  exact h.add_left _

/-- Taking an infinity off leaves an infinity. -/
theorem Inf.sub {b : EReal} (h : Inf b) (a : EReal) : Inf (a - b) := by
  rw [sub_eq_add_neg, add_comm]
  refine Inf.add_left ?_ a
  rcases h with rfl | rfl
  · right; simp
  · left; simp

/-- A nonzero finite multiple of an infinity is infinite. -/
theorem Inf.mul {r : ℝ} (hr : r ≠ 0) {w : EReal} (h : Inf w) : Inf ((r : EReal) * w) := by
  rcases lt_or_gt_of_ne hr with hn | hp
  · rcases h with rfl | rfl
    · right; exact EReal.coe_mul_top_of_neg hn
    · left; exact EReal.coe_mul_bot_of_neg hn
  · rcases h with rfl | rfl
    · left; exact EReal.coe_mul_top_of_pos hp
    · right; exact EReal.coe_mul_bot_of_pos hp

/-- The square of an infinity. -/
theorem Inf.sq {a : EReal} (h : Inf a) : a * a = ⊤ := by rcases h with rfl | rfl <;> simp

/-- The quotient by 256 is a product with a positive real. -/
theorem div256 (a : EReal) : Ideal.div a c256 = ((1 / 256 : ℝ) : EReal) * a := by
  unfold Ideal.div
  rw [c256_eq, if_neg (by norm_num), ← EReal.coe_inv, mul_comm, one_div]

/-- The mean of a row with an infinite entry is infinite. -/
theorem Inf.mean {y : Fin 256 → EReal} {i : Fin 256} (h : Inf (y i)) : Inf (mean y) := by
  unfold LN.mean
  rw [div256]
  exact Inf.mul (by norm_num) (Inf.sum (Finset.mem_univ i) h)

/-- The mean of the squares of a row of infinities. -/
theorem mean_sq {d : Fin 256 → EReal} (h : ∀ i, Inf (d i)) : mean (fun i => d i * d i) = ⊤ := by
  have hd : (fun i => d i * d i) = fun _ => ⊤ := funext fun i => (h i).sq
  have h0 : (0 : EReal) ≤ mean (fun _ => ⊤) := by
    unfold mean
    rw [div256]
    exact mul_nonneg (by exact_mod_cast (by norm_num : (0 : ℝ) ≤ 1 / 256)) (Finset.sum_nonneg fun _ _ => le_top)
  rw [hd]
  rcases Inf.mean (y := fun _ => ⊤) (i := 0) (.inl rfl) with e | e
  · exact e
  · rw [e] at h0; simp at h0

/-- Infinity plus the epsilon. -/
theorem top_eps : (⊤ : EReal) + eps = ⊤ := by
  obtain ⟨e, -, hε⟩ := eps_eq
  rw [hε]; simp

/-- The reference's layer norm of a row with an infinite entry is zero, -/
theorem lnRelu_inf {y : Fin 256 → EReal} {i : Fin 256} (h : Inf (y i)) (j : Fin 256) : lnRelu y j = 0 := by
  unfold lnRelu
  rw [mean_sq (fun k => (Inf.mean h).sub (y k)), top_eps, show Ideal.sqrt ⊤ = ⊤ from rfl]
  unfold Ideal.div
  rw [if_neg (by simp)]; simp

section Row

variable {K : ℕ} {x : Fin K → EReal} {W : Fin K → Fin 256 → EReal}

/-- and the kernel's, where the projected row is infinite throughout. -/
theorem rowRelu_inf (h : ∀ i, Inf (proj x (centred W) i)) (a : EReal) (j : Fin 256) : rowRelu x W a j = 0 := by
  unfold rowRelu
  rw [show Ideal.div (∑ i, proj x (centred W) i * proj x (centred W) i) c256 = ⊤ from mean_sq h, top_eps,
    show Ideal.rsqrt ⊤ = 0 from rfl]
  simp

/-- The matrix with the rows that meet a zero feature cleared. -/
def cleared (x : Fin K → EReal) (W : Fin K → Fin 256 → EReal) (k : Fin K) (j : Fin 256) : EReal :=
  open Classical in if x k = 0 then 0 else W k j

/-- Clearing those rows changes no projection, -/
theorem proj_cleared : proj x (cleared x W) = proj x W := by
  funext j
  refine Finset.sum_congr rfl fun k _ => ?_
  unfold cleared
  by_cases h : x k = 0
  · rw [h, zero_mul, zero_mul]
  · rw [if_neg h]

/-- nor that of the centred matrix. -/
theorem proj_centred_cleared : proj x (centred (cleared x W)) = proj x (centred W) := by
  funext j
  refine Finset.sum_congr rfl fun k _ => ?_
  by_cases h : x k = 0
  · rw [h, zero_mul, zero_mul]
  · have e : cleared x W k = W k := funext fun i => if_neg h
    unfold centred
    rw [e]

/-- **The narrow projection**, for finite features and any matrix: the kernel's masked form is the reference's layer norm
    where the mask is on and zero where it is off. -/
theorem rowRelu_any (hx : ∀ k, x k ≠ ⊤ ∧ x k ≠ ⊥) (p : Prop) [Decidable p] (j : Fin 256) :
    rowRelu x W (bit p) j = if p then lnRelu (proj x W) j else 0 := by
  by_cases hk : ∃ k i, x k ≠ 0 ∧ Inf (W k i)
  · obtain ⟨k, i, h0, hw⟩ := hk
    obtain ⟨r, hr⟩ : ∃ r : ℝ, x k = (r : EReal) := ⟨_, (EReal.coe_toReal (hx k).1 (hx k).2).symm⟩
    have hr0 : r ≠ 0 := fun e => h0 (by rw [hr, e, EReal.coe_zero])
    have hc : ∀ j, Inf (proj x (centred W) j) := fun j => by
      refine Inf.sum (Finset.mem_univ k) ?_
      rw [hr]
      exact Inf.mul hr0 ((Inf.mean hw).sub _)
    have hy : Inf (proj x W i) := by
      refine Inf.sum (Finset.mem_univ k) ?_
      rw [hr]
      exact Inf.mul hr0 hw
    rw [rowRelu_inf hc, lnRelu_inf hy, ite_self]
  · have hW : ∀ k i, cleared x W k i ≠ ⊤ ∧ cleared x W k i ≠ ⊥ := fun k i => by
      unfold cleared
      by_cases h : x k = 0
      · rw [if_pos h]; simp
      · rw [if_neg h]
        exact ⟨fun e => hk ⟨k, i, h, .inl e⟩, fun e => hk ⟨k, i, h, .inr e⟩⟩
    have e : rowRelu x W (bit p) j = rowRelu x (cleared x W) (bit p) j := by
      unfold rowRelu
      rw [proj_centred_cleared]
    rw [e, rowRelu_eq hx hW, proj_cleared]

end Row

end Cert.Proof.LN

end
-- ==== Proof.Masks.lean ====
/- The kernel's two masks and its class factor, at an index: lane `k` of a token's mask is the mask word of that token. -/
module

public import proofs.«01_k».proof.Proof.Token
public import proofs.«01_k».proof.Proof.Gen.KernelIdeal.Skeleton
public import Idealize.ShloMosaic.Lib.Pointwise

@[expose] public section

set_option maxRecDepth 16384

noncomputable section

namespace Cert.Proof.Masks

open Idealize.ShloMosaic Cert.KernelIdeal Cert.KernelIdeal.Gen Cert.Proof.LN Cert.Proof.Words Cert.Proof.Token
open scoped BigOperators

/-- The mask over the stacked tables, of a block's words. -/
def fA (x0 x1 x2 x3 x4 : Vec Ideal S16x200 .i32) : FVec Ideal S16x200x116 .bf16 :=
  k0_pay16 (F := Ideal) (k0_pay10 (F := Ideal) x0 (k0_pay3 (F := Ideal) x0) x1 (k0_pay4 (F := Ideal) x2) (k0_pay5 (F := Ideal) x3) (k0_pay8 (F := Ideal) x0))
    (k0_pay11 (k0_pay6 (F := Ideal) x4) (k0_pay7 (F := Ideal) x0) (k0_pay9 (F := Ideal) x0)) k0_pay12
    (k0_pay14 (F := Ideal) x0 (k0_pay3 (F := Ideal) x0) x1 (k0_pay4 (F := Ideal) x2) (k0_pay5 (F := Ideal) x3) (k0_pay8 (F := Ideal) x0)) k0_pay15

/-- The mask over the action types. -/
def fB (x0 x4 : Vec Ideal S16x200 .i32) : FVec Ideal S16x200x32 .bf16 :=
  k0_pay17 (F := Ideal) (k0_pay11 (k0_pay6 (F := Ideal) x4) (k0_pay7 (F := Ideal) x0) (k0_pay9 (F := Ideal) x0)) k0_pay13

/-- The wide 0/1 matrix at an index: one where the lane is one of the token's five fields. -/
theorem fA_apply (x0 x1 x2 x3 x4 : Vec Ideal S16x200 .i32) (p : Fin 16) (l : Fin 200) (k : Fin 116) :
    fA x0 x1 x2 x3 x4 (ix3 p l k)
      = Scalar.select (maskA (x0 (ix2 p l)) (x1 (ix2 p l)) (x2 (ix2 p l)) (x3 (ix2 p l)) (x4 (ix2 p l)) k.val) (1 : EReal) 0 := by
  pointwise [fA, k0_pay16, k0_pay10, k0_pay3, k0_pay4, k0_pay5, k0_pay8, k0_pay11, k0_pay6, k0_pay7, k0_pay9, k0_pay12, k0_pay14, k0_pay15]
  rfl

/-- The narrow 0/1 matrix at an index: one where the lane is the token's bet. -/
theorem fB_apply (x0 x4 : Vec Ideal S16x200 .i32) (p : Fin 16) (l : Fin 200) (k : Fin 32) :
    fB x0 x4 (ix3 p l k) = Scalar.select (maskB (x0 (ix2 p l)) (x4 (ix2 p l)) k.val) (1 : EReal) 0 := by
  pointwise [fB, k0_pay17, k0_pay11, k0_pay6, k0_pay7, k0_pay9, k0_pay13]
  rfl

/-- The class factor: zero at a row whose first token is padding. -/
theorem pay18_apply (x0 : Vec Ideal S16x200 .i32) (p : Fin 16) :
    k0_pay18 (F := Ideal) (k0_pay3 (F := Ideal) x0) (ix2 p 0) = bit (¬Pad (x0 (ix2 p 0))) := by
  pointwise [k0_pay18, k0_pay3]
  refine (select_iff (padW_one (x0 (ix2 p 0))) 0 1).trans ?_
  unfold bit
  by_cases h : Pad (x0 (ix2 p 0)) <;> simp [h]

end Cert.Proof.Masks

end
-- ==== Proof.Block.lean ====
/- What the kernel's body computes of its blocks, at an index: the masks against the tables, the two wide projections
   with their variance as a quadratic form, and the class projection added at position zero. -/
module

public import proofs.«01_k».proof.Proof.Masks

@[expose] public section

set_option maxRecDepth 16384

noncomputable section

namespace Cert.Proof.Block

open Idealize.ShloMosaic Cert.KernelIdeal Cert.KernelIdeal.Gen Cert.Proof.LN Cert.Proof.Words Cert.Proof.Token Cert.Proof.Masks
open scoped BigOperators

/-- A row against a matrix, scaled by the root of a quadratic form of the row and a factor, and rectified. -/
def quad {K : ℕ} (x : Fin K → EReal) (M : Fin K → Fin 256 → EReal) (G : Fin K → Fin K → EReal) (a : EReal) (j : Fin 256) : EReal :=
  max (proj x M j * (Ideal.rsqrt ((∑ p, (∑ q, x q * G q p) * x p) * i256 + eps) * a)) 0

/-- A row against a matrix, scaled by the root of the product's own mean square and a factor, and rectified. -/
def own {K : ℕ} (x : Fin K → EReal) (M : Fin K → Fin 256 → EReal) (a : EReal) (j : Fin 256) : EReal :=
  max (proj x M j * (Ideal.rsqrt (Ideal.div (∑ i, proj x M i * proj x M i) c256 + eps) * a)) 0

/-- The block before the class projection is added. -/
def wide (x0 x1 x2 x3 x4 : Vec Ideal S16x200 .i32) (x5 : Vec Ideal S16x200x32 .bf16) (x6 : Vec Ideal S16x200x16 .bf16)
    (x8 : Vec Ideal S116x256 .bf16) (x9 x10 : Vec Ideal S32x256 .bf16) (x11 : Vec Ideal S16x256 .bf16)
    (x13 : Vec Ideal S32x32 .bf16) (x14 : Vec Ideal S16x16 .bf16) : FVec Ideal S16x200x256 .f32 :=
  k0_pay1 (F := Ideal) (k0_pay25 (k0_pay21 (fB x0 x4)) (k0_pay22 (fA x0 x1 x2 x3 x4) (fB x0 x4) x8 x9) (k0_pay23 x5) (k0_pay24 x5 x13) x10)
    (k0_pay27 x6 x11) (k0_pay28 (k0_pay20 (fA x0 x1 x2 x3 x4)) x6 x14)

/-- The class projection of a block. -/
def first (x0 : Vec Ideal S16x200 .i32) (x7 : Vec Ideal S16x1x8 .bf16) (x12 : Vec Ideal S8x256 .bf16) : FVec Ideal S16x256 .f32 :=
  k0_pay19 (k0_pay18 (F := Ideal) (k0_pay3 (F := Ideal) x0)) x7 x12

/-- The wide part of the block's result at an index. -/
theorem wide_apply (x0 x1 x2 x3 x4 : Vec Ideal S16x200 .i32) (x5 : Vec Ideal S16x200x32 .bf16) (x6 : Vec Ideal S16x200x16 .bf16)
    (x8 : Vec Ideal S116x256 .bf16) (x9 x10 : Vec Ideal S32x256 .bf16) (x11 : Vec Ideal S16x256 .bf16)
    (x13 : Vec Ideal S32x32 .bf16) (x14 : Vec Ideal S16x16 .bf16) (p : Fin 16) (l : Fin 200) (j : Fin 256) :
    wide x0 x1 x2 x3 x4 x5 x6 x8 x9 x10 x11 x13 x14 (ix3 p l j)
      = (∑ k : Fin 116, fA x0 x1 x2 x3 x4 (ix3 p l k) * x8 (ix2 k j)) + (∑ k : Fin 32, fB x0 x4 (ix3 p l k) * x9 (ix2 k j))
        + quad (fun k => x5 (ix3 p l k)) (fun k i => x10 (ix2 k i)) (fun a b => x13 (ix2 a b)) (∑ k : Fin 32, fB x0 x4 (ix3 p l k)) j
        + quad (fun k => x6 (ix3 p l k)) (fun k i => x11 (ix2 k i)) (fun a b => x14 (ix2 a b)) (fA x0 x1 x2 x3 x4 (ix3 p l 1)) j := by
  unfold wide
  generalize fA x0 x1 x2 x3 x4 = A
  generalize fB x0 x4 = B
  pointwise [k0_pay1, k0_pay25, k0_pay21, k0_pay22, k0_pay23, k0_pay24, k0_pay27, k0_pay28, k0_pay20, k0_pay26]
  rfl

/-- The part added at the first position of each sequence, at an index. -/
theorem first_apply (x0 : Vec Ideal S16x200 .i32) (x7 : Vec Ideal S16x1x8 .bf16) (x12 : Vec Ideal S8x256 .bf16) (p : Fin 16) (j : Fin 256) :
    first x0 x7 x12 (ix2 p j)
      = own (fun k => x7 (ix3 p 0 k)) (fun k i => x12 (ix2 k i)) (bit (¬Pad (x0 (ix2 p 0)))) j := by
  unfold first
  rw [← pay18_apply]
  generalize k0_pay18 (F := Ideal) (k0_pay3 (F := Ideal) x0) = Z
  pointwise [k0_pay19]
  rfl

end Cert.Proof.Block

end
-- ==== Proof.Out.lean ====
/- What the body leaves in the output's staging buffer: the whole block, with the class projection added in its first
   row of every sequence. -/
module

public import proofs.«01_k».proof.Proof.Block
public import proofs.«01_k».proof.Proof.Gen.KernelIdeal.Frame
public import Idealize.ShloMosaic.Lib.Pipeline.Value
public import Idealize.ShloMosaic.Lib.Tactic

@[expose] public section

set_option maxRecDepth 16384

noncomputable section

namespace Cert.Proof.Out

open Idealize.ShloMosaic Cert.KernelIdeal Cert.KernelIdeal.Gen Cert.Proof.Block Cert.Proof.Masks
open scoped BigOperators

/-- The zero offset of a matrix. -/
theorem hz2 : (![0, 0] : Fin 2 → ℕ) = fun _ => 0 := by funext a; fin_cases a <;> rfl
/-- The zero offset of a stack of matrices. -/
theorem hz3 : (![0, 0, 0] : Fin 3 → ℕ) = fun _ => 0 := by funext a; fin_cases a <;> rfl

/-- The staging buffer's contents, as the two stores' pieces. -/
theorem out_eq (c : Dev nD) (i : grid0.Coords) (arg1 : Memref sig .tc .vmem S16x200 .i32) (harg1 : arg1.IsWhole) (arg2 : Memref sig .tc .vmem S16x200 .i32) (harg2 : arg2.IsWhole) (arg3 : Memref sig .tc .vmem S16x200 .i32) (harg3 : arg3.IsWhole) (arg4 : Memref sig .tc .vmem S16x200 .i32) (harg4 : arg4.IsWhole) (arg5 : Memref sig .tc .vmem S16x200 .i32) (harg5 : arg5.IsWhole) (arg6 : Memref sig .tc .vmem S16x200x32 .bf16) (harg6 : arg6.IsWhole) (arg7 : Memref sig .tc .vmem S16x200x16 .bf16) (harg7 : arg7.IsWhole) (arg8 : Memref sig .tc .vmem S16x8x16 .bf16) (harg8 : arg8.IsWhole) (arg9 : Memref sig .tc .vmem S116x256 .bf16) (harg9 : arg9.IsWhole) (arg10 : Memref sig .tc .vmem S32x256 .bf16) (harg10 : arg10.IsWhole) (arg11 : Memref sig .tc .vmem S32x256 .bf16) (harg11 : arg11.IsWhole) (arg12 : Memref sig .tc .vmem S16x256 .bf16) (harg12 : arg12.IsWhole) (arg13 : Memref sig .tc .vmem S8x256 .bf16) (harg13 : arg13.IsWhole) (arg14 : Memref sig .tc .vmem S32x32 .bf16) (harg14 : arg14.IsWhole) (arg15 : Memref sig .tc .vmem S16x16 .bf16) (harg15 : arg15.IsWhole) (arg16 : Memref sig .tc .vmem S16x200x256 .f32) (harg16 : arg16.IsWhole)
    (x0 x1 x2 x3 x4 : Vec Ideal S16x200 .i32) (x5 : Vec Ideal S16x200x32 .bf16) (x6 : Vec Ideal S16x200x16 .bf16) (x7 : Vec Ideal S16x8x16 .bf16) (x8 : Vec Ideal S116x256 .bf16) (x9 : Vec Ideal S32x256 .bf16) (x10 : Vec Ideal S32x256 .bf16) (x11 : Vec Ideal S16x256 .bf16) (x12 : Vec Ideal S8x256 .bf16) (x13 : Vec Ideal S32x32 .bf16) (x14 : Vec Ideal S16x16 .bf16) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14
      = View.canon [⟨Rect.unit (s := S16x200x256) ![0, 0, 0] S16x1x256.size inb_S16x200x256_S16x1x256_0_0_0,
            addf (F := Ideal) (extractStridedSlice S16x1x256 ![0, 0, 0] (wide x0 x1 x2 x3 x4 x5 x6 x8 x9 x10 x11 x13 x14) slices_S16x200x256_o0_0_0_S16x1x256)
              (shapeCast S16x1x256 (first x0 (View.ld x7 (Rect.unit (s := S16x8x16) ![0, 0, 0] S16x1x8.size inb_S16x8x16_S16x1x8_0_0_0)) x12) shapeCasts_S16x256_S16x1x256)⟩,
          ⟨Rect.unit (s := S16x200x256) ![0, 0, 0] S16x200x256.size inb_S16x200x256_S16x200x256_0_0_0,
            wide x0 x1 x2 x3 x4 x5 x6 x8 x9 x10 x11 x13 x14⟩] := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread,
    harg6.read_unread, harg7.read_unread, harg8.read_unread, harg9.read_unread, harg10.read_unread, harg11.read_unread,
    harg12.read_unread, harg13.read_unread, harg14.read_unread, harg15.read_unread,
    View.ld_unit_zero (S := S16x200) hz2, View.ld_unit_zero (S := S16x200x32) hz3, View.ld_unit_zero (S := S16x200x16) hz3, View.ld_unit_zero (S := S116x256) hz2, View.ld_unit_zero (S := S32x256) hz2, View.ld_unit_zero (S := S16x256) hz2, View.ld_unit_zero (S := S8x256) hz2, View.ld_unit_zero (S := S32x32) hz2, View.ld_unit_zero (S := S16x16) hz2]
  rfl

/-- The two pieces at an index: the block, and in every sequence's first row the class projection added. -/
theorem canon_apply (W : FVec Ideal S16x200x256 .f32) (Z : FVec Ideal S16x256 .f32) (p : Fin 16) (l : Fin 200) (j : Fin 256) :
    View.canon (Val := Elt Ideal) (e := .f32) [⟨Rect.unit (s := S16x200x256) ![0, 0, 0] S16x1x256.size inb_S16x200x256_S16x1x256_0_0_0,
            addf (F := Ideal) (extractStridedSlice S16x1x256 ![0, 0, 0] W slices_S16x200x256_o0_0_0_S16x1x256)
              (shapeCast S16x1x256 Z shapeCasts_S16x256_S16x1x256)⟩,
          ⟨Rect.unit (s := S16x200x256) ![0, 0, 0] S16x200x256.size inb_S16x200x256_S16x200x256_0_0_0, W⟩] (ix3 p l j)
      = W (ix3 p l j) + if l = 0 then Z (ix2 p j) else 0 := by
  by_cases h : l = 0
  · subst h
    have e : (ix3 p 0 j : S16x200x256.Idx)
        = (Rect.unit (s := S16x200x256) ![0, 0, 0] S16x1x256.size inb_S16x200x256_S16x1x256_0_0_0).emb (ix3 p 0 j : S16x1x256.Idx) := by
      funext a
      fin_cases a
      · exact Fin.ext (show p.val = 0 + 1 * p.val by omega)
      · rfl
      · exact Fin.ext (show j.val = 0 + 1 * j.val by omega)
    rw [if_pos rfl, e, View.canon_cons_emb, ← e]
    pointwise
  · rw [if_neg h, add_zero, View.canon_cons_of_not_mem, View.canon_unit_zero hz3]
    rw [Rect.mem_set_unit]
    intro hm
    have := (hm 1).2
    exact h (Fin.ext (by simpa [ix3] using this))

/-- The part of the context block the class projection reads: position zero, its first eight columns. -/
theorem ld_apply (x7 : Vec Ideal S16x8x16 .bf16) (p : Fin 16) (k : Fin 8) :
    View.ld (Val := Elt Ideal) (e' := .bf16) x7 (Rect.unit (s := S16x8x16) ![0, 0, 0] S16x1x8.size inb_S16x8x16_S16x1x8_0_0_0) (ix3 p 0 k)
      = x7 (ix3 p 0 ⟨k.val, by omega⟩) := by
  refine congrArg x7 ?_
  funext a
  fin_cases a
  · exact Fin.ext (show 0 + 1 * p.val = p.val by omega)
  · rfl
  · exact Fin.ext (show 0 + 1 * k.val = k.val by omega)

end Cert.Proof.Out

end
-- ==== Proof.Windows.lean ====
/- The windows' blocks at an index: the block of point `t` holds sequences `16 t` to `16 t + 15` of its array, the
   tables' windows hold their whole arrays. -/
module

public import proofs.«01_k».proof.Proof.Gen.KernelIdeal.Value
public import Idealize.ShloMosaic.Lib.Pipeline.ValueKit.Geometry
public import Idealize.ShloMosaic.Lib.Pointwise

@[expose] public section

set_option maxRecDepth 16384

noncomputable section

namespace Cert.Proof.Windows

open Idealize.ShloMosaic Idealize.ShloMosaic.TcCoe Cert.KernelIdeal Cert.KernelIdeal.Gen

variable (m : (ℓ : Loc nD τ sig) → Buf (Elt Ideal) ℓ) (c : Dev nD) (t : Fin cfg0.N)

/-- Sequence `p` of point `t`'s block. -/
def seq (t : Fin cfg0.N) (p : Fin 16) : Fin 1024 := ⟨16 * t.val + p.val, by have := t.isLt; have h : cfg0.N = 64 := N_0; omega⟩

/-- The index maps: the moving windows step along the sequences, -/
theorem moves : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0, 0]
    ∧ win0_6.index t = ![t.val, 0, 0] ∧ win0_7.index t = ![t.val, 0, 0] ∧ win0_15.index t = ![t.val, 0, 0] :=
  (by decide +kernel : ∀ t : Fin grid0.N, _)
/-- the tables' windows stay. -/
theorem stays : ∀ t : Fin cfg0.N, win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] :=
  (by decide +kernel : ∀ t : Fin grid0.N, _)

/-- The token ids a point reads are those of its sixteen sequences. -/
theorem block0 (p : Fin 16) (l : Fin 200) : iblk m c 0 t (ix2 p l) = m ((c : Thread nD τ).loc main_arg0) (ix2 (seq t p) l) := by
  rw [← V_main_arg0 m]; blk_simp [iblk]; exact congrArg (V m c main_arg0) (by blk_ext [moves t, seq])
/-- The streets a point reads are those of its sixteen sequences. -/
theorem block1 (p : Fin 16) (l : Fin 200) : iblk m c 1 t (ix2 p l) = m ((c : Thread nD τ).loc main_arg1) (ix2 (seq t p) l) := by
  rw [← V_main_arg1 m]; blk_simp [iblk]; exact congrArg (V m c main_arg1) (by blk_ext [moves t, seq])
/-- The ranks a point reads are those of its sixteen sequences. -/
theorem block2 (p : Fin 16) (l : Fin 200) : iblk m c 2 t (ix2 p l) = m ((c : Thread nD τ).loc main_arg2) (ix2 (seq t p) l) := by
  rw [← V_main_arg2 m]; blk_simp [iblk]; exact congrArg (V m c main_arg2) (by blk_ext [moves t, seq])
/-- The suits a point reads are those of its sixteen sequences. -/
theorem block3 (p : Fin 16) (l : Fin 200) : iblk m c 3 t (ix2 p l) = m ((c : Thread nD τ).loc main_arg3) (ix2 (seq t p) l) := by
  rw [← V_main_arg3 m]; blk_simp [iblk]; exact congrArg (V m c main_arg3) (by blk_ext [moves t, seq])
/-- The actors a point reads are those of its sixteen sequences. -/
theorem block4 (p : Fin 16) (l : Fin 200) : iblk m c 4 t (ix2 p l) = m ((c : Thread nD τ).loc main_arg4) (ix2 (seq t p) l) := by
  rw [← V_main_arg4 m]; blk_simp [iblk]; exact congrArg (V m c main_arg4) (by blk_ext [moves t, seq])
/-- The legal masks a point reads are those of its sixteen sequences. -/
theorem block5 (p : Fin 16) (l : Fin 200) (k : Fin 32) : iblk m c 5 t (ix3 p l k) = V m c main_v3 (ix3 (seq t p) l k) := by
  blk_simp [iblk]; exact congrArg (V m c main_v3) (by blk_ext [moves t, seq])
/-- The contexts a point reads are those of its sixteen sequences. -/
theorem block6 (p : Fin 16) (l : Fin 200) (k : Fin 16) : iblk m c 6 t (ix3 p l k) = V m c main_v4 (ix3 (seq t p) l k) := by
  blk_simp [iblk]; exact congrArg (V m c main_v4) (by blk_ext [moves t, seq])
/-- The first eight contexts a point reads are those of its sixteen sequences. -/
theorem block7 (p : Fin 16) (l : Fin 8) (k : Fin 16) :
    iblk m c 7 t (ix3 p l k) = V m c main_v4 (ix3 (seq t p) ⟨l.val, by omega⟩ k) := by
  blk_simp [iblk]; exact congrArg (V m c main_v4) (by blk_ext [moves t, seq])
/-- Every point reads the whole of the stacked tables. -/
theorem block8 (k : Fin 116) (j : Fin 256) : iblk m c 8 t (ix2 k j) = V m c main_v1 (ix2 k j) := by
  blk_simp [iblk]; exact congrArg (V m c main_v1) (by blk_ext [stays t])
/-- Every point reads the whole of the bet table. -/
theorem block9 (k : Fin 32) (j : Fin 256) : iblk m c 9 t (ix2 k j) = V m c main_v2 (ix2 k j) := by
  blk_simp [iblk]; exact congrArg (V m c main_v2) (by blk_ext [stays t])
/-- Every point reads the whole of the centred matrix of the legal masks. -/
theorem block10 (k : Fin 32) (j : Fin 256) : iblk m c 10 t (ix2 k j) = V m c main_v29 (ix2 k j) := by
  blk_simp [iblk]; exact congrArg (V m c main_v29) (by blk_ext [stays t])
/-- Every point reads the whole of the centred matrix of the contexts. -/
theorem block11 (k : Fin 16) (j : Fin 256) : iblk m c 11 t (ix2 k j) = V m c main_v30 (ix2 k j) := by
  blk_simp [iblk]; exact congrArg (V m c main_v30) (by blk_ext [stays t])
/-- Every point reads the whole of the centred matrix of the first context. -/
theorem block12 (k : Fin 8) (j : Fin 256) : iblk m c 12 t (ix2 k j) = V m c main_v33 (ix2 k j) := by
  blk_simp [iblk]; exact congrArg (V m c main_v33) (by blk_ext [stays t])
/-- Every point reads the whole of the Gram matrix of the legal masks. -/
theorem block13 (a b : Fin 32) : iblk m c 13 t (ix2 a b) = V m c main_v25 (ix2 a b) := by
  blk_simp [iblk]; exact congrArg (V m c main_v25) (by blk_ext [stays t])
/-- Every point reads the whole of the Gram matrix of the contexts. -/
theorem block14 (a b : Fin 16) : iblk m c 14 t (ix2 a b) = V m c main_v28 (ix2 a b) := by
  blk_simp [iblk]; exact congrArg (V m c main_v28) (by blk_ext [stays t])

/-- The result's block at an index is the result at the block's sequence. -/
theorem block15 (p : Fin 16) (l : Fin 200) (j : Fin 256) :
    (dats m 0 c).flushed 15 t (ix3 p l j) = (dats m 0 c).arrAt 15 cfg0.N (ix3 (seq t p) l j) := by
  rw [← Value.blocks15 m c t (flush0_15 t)]
  blk_simp []; exact congrArg ((dats m 0 c).arrAt 15 cfg0.N) (by blk_ext [moves t, seq])

end Cert.Proof.Windows

end
-- ==== Proof.Operands.lean ====
/- The arrays the kernel's caller prepares, at an index: the five tables stacked, the three projections' matrices with
   their rows centred, and the Gram matrices of the two wide ones. -/
module

public import proofs.«01_k».proof.Proof.LayerNorm
public import proofs.«01_k».proof.Proof.Token
public import proofs.«01_k».proof.Proof.Gen.KernelIdeal.Value
public import Idealize.ShloMosaic.Lib.StableHlo.ReadAt
public import Idealize.ShloMosaic.Lib.Pointwise

@[expose] public section

set_option maxRecDepth 16384

noncomputable section

namespace Cert.Proof.Operands

open Idealize.ShloMosaic Idealize.ShloMosaic.TcCoe Cert.KernelIdeal Cert.KernelIdeal.Gen Cert.Proof.LN Cert.Proof.Token
open scoped BigOperators

variable (m : (ℓ : Loc nD τ sig) → Buf (Elt Ideal) ℓ) (c : Dev nD)

/-- The legal masks, converted. -/
theorem legal_at (b : Fin 1024) (l : Fin 200) (k : Fin 32) :
    V m c main_v3 (ix3 b l k) = m ((c : Thread nD τ).loc main_arg5) (ix3 b l k) := by
  unfold V; after_reads_at
/-- The context features, converted. -/
theorem context_at (b : Fin 1024) (l : Fin 200) (k : Fin 16) :
    V m c main_v4 (ix3 b l k) = m ((c : Thread nD τ).loc main_arg6) (ix3 b l k) := by
  unfold V; after_reads_at
/-- The type table, converted. -/
theorem type_at (k : Fin 32) (j : Fin 256) : V m c main_v2 (ix2 k j) = m ((c : Thread nD τ).loc main_arg12) (ix2 k j) := by
  unfold V; after_reads_at
/-- The legal projection's matrix, its rows centred; -/
theorem legalW_at (k : Fin 32) (j : Fin 256) :
    V m c main_v29 (ix2 k j) = centred (fun a i => m ((c : Thread nD τ).loc main_arg13) (ix2 a i)) k j := by
  unfold V; after_reads_at; rfl
/-- its Gram matrix. -/
theorem legalG_at (a b : Fin 32) :
    V m c main_v25 (ix2 a b) = gram (fun a i => m ((c : Thread nD τ).loc main_arg13) (ix2 a i)) a b := by
  unfold V; after_reads_at; rfl
/-- The context projection's matrix, its rows centred; -/
theorem contextW_at (k : Fin 16) (j : Fin 256) :
    V m c main_v30 (ix2 k j) = centred (fun a i => m ((c : Thread nD τ).loc main_arg21) (ix2 a i)) k j := by
  unfold V; after_reads_at; rfl
/-- its Gram matrix. -/
theorem contextG_at (a b : Fin 16) :
    V m c main_v28 (ix2 a b) = gram (fun a i => m ((c : Thread nD τ).loc main_arg21) (ix2 a i)) a b := by
  unfold V; after_reads_at; rfl
/-- The five tables, one below the other. -/
theorem stacked_at (k : Fin 116) (j : Fin 256) :
    V m c main_v1 (ix2 k j)
      = if h : k.val < 93 then m ((c : Thread nD τ).loc main_arg7) (ix2 ⟨k.val, h⟩ j)
        else if h : k.val - 93 < 4 then m ((c : Thread nD τ).loc main_arg8) (ix2 ⟨k.val - 93, h⟩ j)
        else if h : k.val - 93 - 4 < 13 then m ((c : Thread nD τ).loc main_arg9) (ix2 ⟨k.val - 93 - 4, h⟩ j)
        else if h : k.val - 93 - 4 - 13 < 4 then m ((c : Thread nD τ).loc main_arg10) (ix2 ⟨k.val - 93 - 4 - 13, h⟩ j)
        else m ((c : Thread nD τ).loc main_arg11) (ix2 ⟨k.val - 93 - 4 - 13 - 4, by omega⟩ j) := by
  unfold V; after_reads_at; rfl
/-- The class projection's matrix, its rows centred, -/
theorem clsC_at (k : Fin 3) (j : Fin 256) :
    StableHlo.upto hostOps0 (fun b => m (c, b)) 39 (Proc.tc.devRef main_v22) (ix2 k j)
      = centred (fun a i => m ((c : Thread nD τ).loc main_arg17) (ix2 a i)) k j := by
  after_reads_at; rfl
/-- the zero rows under it, -/
theorem clsZ_at (k : Fin 5) (j : Fin 256) :
    StableHlo.upto hostOps0 (fun b => m (c, b)) 39 (Proc.tc.devRef main_v31) (ix2 k j) = (0 : EReal) := by
  after_reads_at
/-- and both together. -/
theorem clsW_at (k : Fin 8) (j : Fin 256) :
    V m c main_v33 (ix2 k j)
      = if h : k.val < 3 then centred (fun a i => m ((c : Thread nD τ).loc main_arg17) (ix2 a i)) ⟨k.val, h⟩ j else 0 := by
  unfold V; after_reads_at
  by_cases h : k.val < 3
  · refine (dif_pos h).trans ((clsC_at m c ⟨k.val, h⟩ j).trans ?_); rw [dif_pos h]
  · refine (dif_neg h).trans ((clsZ_at m c ⟨k.val - 3, by omega⟩ j).trans ?_); rw [dif_neg h]

end Cert.Proof.Operands

end
-- ==== Proof.KernelValue.lean ====
/- The kernel's result array is the embedding. -/
module

public import proofs.«01_k».proof.Proof.Spec
public import proofs.«01_k».proof.Proof.Infinite
public import proofs.«01_k».proof.Proof.Out
public import proofs.«01_k».proof.Proof.Windows
public import proofs.«01_k».proof.Proof.Operands

@[expose] public section

set_option maxRecDepth 16384

noncomputable section

namespace Cert.Proof.KernelValue

open Idealize.ShloMosaic Idealize.ShloMosaic.TcCoe Cert.KernelIdeal Cert.KernelIdeal.Gen
open Cert.Proof.LN Cert.Proof.Words Cert.Proof.Token Cert.Proof.Spec Cert.Proof.Masks Cert.Proof.Block Cert.Proof.Out Cert.Proof.Windows
  Cert.Proof.Operands
open scoped BigOperators

variable (m : (ℓ : Loc nD τ sig) → Buf (Elt Ideal) ℓ) (c : Dev nD)

/-- The kernel's argument arrays. -/
def inputs : Inputs where
  ids := m ((c : Thread nD τ).loc main_arg0)
  streets := m ((c : Thread nD τ).loc main_arg1)
  ranks := m ((c : Thread nD τ).loc main_arg2)
  suits := m ((c : Thread nD τ).loc main_arg3)
  actors := m ((c : Thread nD τ).loc main_arg4)
  masks := m ((c : Thread nD τ).loc main_arg5)
  context := m ((c : Thread nD τ).loc main_arg6)
  base := m ((c : Thread nD τ).loc main_arg7)
  street := m ((c : Thread nD τ).loc main_arg8)
  rank := m ((c : Thread nD τ).loc main_arg9)
  suit := m ((c : Thread nD τ).loc main_arg10)
  actor := m ((c : Thread nD τ).loc main_arg11)
  type := m ((c : Thread nD τ).loc main_arg12)
  legalW := m ((c : Thread nD τ).loc main_arg13)
  legalB := m ((c : Thread nD τ).loc main_arg14)
  legalG := m ((c : Thread nD τ).loc main_arg15)
  legalBeta := m ((c : Thread nD τ).loc main_arg16)
  clsW := m ((c : Thread nD τ).loc main_arg17)
  clsB := m ((c : Thread nD τ).loc main_arg18)
  clsG := m ((c : Thread nD τ).loc main_arg19)
  clsBeta := m ((c : Thread nD τ).loc main_arg20)
  ctxW := m ((c : Thread nD τ).loc main_arg21)
  ctxB := m ((c : Thread nD τ).loc main_arg22)
  ctxG := m ((c : Thread nD τ).loc main_arg23)
  ctxBeta := m ((c : Thread nD τ).loc main_arg24)

/-- Every sequence is in some point's block. -/
theorem exists_seq (b : Fin 1024) : ∃ (t : Fin cfg0.N) (p : Fin 16), seq t p = b := by
  have h : cfg0.N = 64 := N_0
  refine ⟨⟨b.val / 16, by omega⟩, ⟨b.val % 16, by omega⟩, Fin.ext ?_⟩
  show 16 * (b.val / 16) + b.val % 16 = b.val
  omega

/-- A product with a matrix padded by zero rows is the product with the rows that are there. -/
theorem proj_padded (x : Fin 8 → EReal) (W : Fin 3 → Fin 256 → EReal) (j : Fin 256) :
    proj x (fun k i => if h : k.val < 3 then W ⟨k.val, h⟩ i else 0) j = proj (fun k : Fin 3 => x ⟨k.val, by omega⟩) W j := by
  unfold proj
  rw [Fin.sum_univ_eight, Fin.sum_univ_three]
  simp

/-- The masked class projection of the kernel. -/
theorem own_padded (x : Fin 8 → EReal) (W : Fin 3 → Fin 256 → EReal) (a : EReal) (j : Fin 256) :
    own x (fun k i => if h : k.val < 3 then centred W ⟨k.val, h⟩ i else 0) a j
      = rowRelu (fun k : Fin 3 => x ⟨k.val, by omega⟩) W a j := by
  unfold own rowRelu
  simp only [proj_padded]

/-- Row `k` of the stacked tables, in each of the five. -/
theorem stacked_pick (j : Fin 256) :
    (∀ k, k < 93 → pick (fun k : Fin 116 => V m c main_v1 (ix2 k j)) k = pick (fun k => (inputs m c).base (ix2 k j)) k)
    ∧ (∀ k, k < 4 → pick (fun k : Fin 116 => V m c main_v1 (ix2 k j)) (k + 93) = pick (fun k => (inputs m c).street (ix2 k j)) k)
    ∧ (∀ k, k < 13 → pick (fun k : Fin 116 => V m c main_v1 (ix2 k j)) (k + 97) = pick (fun k => (inputs m c).rank (ix2 k j)) k)
    ∧ (∀ k, k < 4 → pick (fun k : Fin 116 => V m c main_v1 (ix2 k j)) (k + 110) = pick (fun k => (inputs m c).suit (ix2 k j)) k)
    ∧ (∀ k, k < 2 → pick (fun k : Fin 116 => V m c main_v1 (ix2 k j)) (k + 114) = pick (fun k => (inputs m c).actor (ix2 k j)) k) := by
  refine ⟨fun k hk => ?_, fun k hk => ?_, fun k hk => ?_, fun k hk => ?_, fun k hk => ?_⟩
  · rw [pick_lt _ hk, pick_lt _ (by omega : k < 116)]
    refine (stacked_at m c _ j).trans ?_
    rw [dif_pos hk]; rfl
  · rw [pick_lt _ hk, pick_lt _ (by omega : k + 93 < 116)]
    refine (stacked_at m c _ j).trans ?_
    rw [dif_neg (by dsimp only; omega), dif_pos (by dsimp only; omega)]
    exact congrArg (fun q => m ((c : Thread nD τ).loc main_arg8) (ix2 q j)) (Fin.ext (by dsimp only; omega))
  · rw [pick_lt _ hk, pick_lt _ (by omega : k + 97 < 116)]
    refine (stacked_at m c _ j).trans ?_
    rw [dif_neg (by dsimp only; omega), dif_neg (by dsimp only; omega), dif_pos (by dsimp only; omega)]
    exact congrArg (fun q => m ((c : Thread nD τ).loc main_arg9) (ix2 q j)) (Fin.ext (by dsimp only; omega))
  · rw [pick_lt _ hk, pick_lt _ (by omega : k + 110 < 116)]
    refine (stacked_at m c _ j).trans ?_
    rw [dif_neg (by dsimp only; omega), dif_neg (by dsimp only; omega), dif_neg (by dsimp only; omega), dif_pos (by dsimp only; omega)]
    exact congrArg (fun q => m ((c : Thread nD τ).loc main_arg10) (ix2 q j)) (Fin.ext (by dsimp only; omega))
  · rw [pick_lt _ hk, pick_lt _ (by omega : k + 114 < 116)]
    refine (stacked_at m c _ j).trans ?_
    rw [dif_neg (by dsimp only; omega), dif_neg (by dsimp only; omega), dif_neg (by dsimp only; omega), dif_neg (by dsimp only; omega)]
    exact congrArg (fun q => m ((c : Thread nD τ).loc main_arg11) (ix2 q j)) (Fin.ext (by dsimp only; omega))

/-- The kernel's three masked projections. -/
theorem legal_part (hg : (inputs m c).Good) (b : Fin 1024) (l : Fin 200) (j : Fin 256) (q : Prop) [Decidable q] :
    quad (fun k => V m c main_v3 (ix3 b l k)) (fun k i => V m c main_v29 (ix2 k i)) (fun a b => V m c main_v25 (ix2 a b)) (bit q) j
      = if q then legal (inputs m c) b l j else 0 := by
  have e1 : (fun k : Fin 32 => V m c main_v3 (ix3 b l k)) = fun k => (inputs m c).masks (ix3 b l k) := funext fun k => legal_at m c b l k
  have e2 : (fun (k : Fin 32) (i : Fin 256) => V m c main_v29 (ix2 k i)) = centred (fun k i => (inputs m c).legalW (ix2 k i)) :=
    funext fun k => funext fun i => legalW_at m c k i
  have e3 : (fun a b : Fin 32 => V m c main_v25 (ix2 a b)) = gram (fun k i => (inputs m c).legalW (ix2 k i)) :=
    funext fun a => funext fun b => legalG_at m c a b
  rw [e1, e2, e3]
  exact quadRelu_eq (fun k => hg.masks _) (fun k i => hg.legalW _) q j
/-- The kernel's context projection is the layer norm of the context where the mask is on, zero elsewhere. -/
theorem ctx_part (hg : (inputs m c).Good) (b : Fin 1024) (l : Fin 200) (j : Fin 256) (q : Prop) [Decidable q] :
    quad (fun k => V m c main_v4 (ix3 b l k)) (fun k i => V m c main_v30 (ix2 k i)) (fun a b => V m c main_v28 (ix2 a b)) (bit q) j
      = if q then ctx (inputs m c) b l j else 0 := by
  have e1 : (fun k : Fin 16 => V m c main_v4 (ix3 b l k)) = fun k => (inputs m c).context (ix3 b l k) := funext fun k => context_at m c b l k
  have e2 : (fun (k : Fin 16) (i : Fin 256) => V m c main_v30 (ix2 k i)) = centred (fun k i => (inputs m c).ctxW (ix2 k i)) :=
    funext fun k => funext fun i => contextW_at m c k i
  have e3 : (fun a b : Fin 16 => V m c main_v28 (ix2 a b)) = gram (fun k i => (inputs m c).ctxW (ix2 k i)) :=
    funext fun a => funext fun b => contextG_at m c a b
  rw [e1, e2, e3]
  exact quadRelu_eq (fun k => hg.context _) (fun k i => hg.ctxW _) q j
/-- The kernel's projection of the first context is its layer norm where the mask is on, zero elsewhere. -/
theorem cls_part (hg : (inputs m c).Good) (b : Fin 1024) (j : Fin 256) (q : Prop) [Decidable q] :
    own (fun k : Fin 8 => V m c main_v4 (ix3 b 0 ⟨k.val, by omega⟩)) (fun k i => V m c main_v33 (ix2 k i)) (bit q) j
      = if q then cls (inputs m c) b j else 0 := by
  have e1 : (fun k : Fin 8 => V m c main_v4 (ix3 b 0 ⟨k.val, by omega⟩)) = fun k => (inputs m c).context (ix3 b 0 ⟨k.val, by omega⟩) :=
    funext fun k => context_at m c b 0 _
  have e2 : (fun (k : Fin 8) (i : Fin 256) => V m c main_v33 (ix2 k i))
      = fun k i => if h : k.val < 3 then centred (fun k i => (inputs m c).clsW (ix2 k i)) ⟨k.val, h⟩ i else 0 :=
    funext fun k => funext fun i => clsW_at m c k i
  rw [e1, e2, own_padded]
  exact rowRelu_any (fun k => hg.context _) q j

/-- The context features the class projection reads: position zero of the block's sequence. -/
theorem first_context (t : Fin cfg0.N) (p : Fin 16) :
    (fun k : Fin 8 => View.ld (Val := Elt Ideal) (e' := .bf16) (iblk m c 7 t : Vec Ideal S16x8x16 .bf16)
        (Rect.unit (s := S16x8x16) ![0, 0, 0] S16x1x8.size inb_S16x8x16_S16x1x8_0_0_0) (ix3 p 0 k))
      = fun k => V m c main_v4 (ix3 (seq t p) 0 ⟨k.val, by omega⟩) := by
  funext k
  rw [ld_apply, block7]
  rfl

/-- **The kernel's array, at an index.** -/
theorem arr_at (hg : (inputs m c).Good) (b : Fin 1024) (l : Fin 200) (j : Fin 256) :
    (dats m 0 c).arrAt 15 cfg0.N (ix3 b l j) = embed (inputs m c) b l j := by
  obtain ⟨t, p, rfl⟩ := exists_seq b
  have hid : (m ((c : Thread nD τ).loc main_arg0) (ix2 (seq t p) l)).toInt ≤ 92 := hg.ids _
  have hst : (m ((c : Thread nD τ).loc main_arg1) (ix2 (seq t p) l)).toNat < 4 := hg.streets _
  obtain ⟨h0, h1, h2, h3, h4⟩ := stacked_pick m c j
  rw [← block15, Value.flushed15_A]
  refine (congrFun (out_eq ..) (ix3 p l j)).trans ?_
  rw [canon_apply, wide_apply, first_apply, first_context]
  simp only [fA_apply, fB_apply, block0, block1, block2, block3, block4, block5, block6, block8, block9, block10,
    block11, block12, block13, block14]
  rw [sum_maskA _ _ _ hid hst, sum_maskB, count_maskB, legal_part m c hg, cls_part m c hg]
  rw [show ((1 : Fin 116) : ℕ) = 1 from rfl, lane_one _ _ _ hid hst]
  rw [ctx_part m c hg]
  have ht : (fun k : Fin 32 => V m c main_v2 (ix2 k j)) = fun k => (inputs m c).type (ix2 k j) := funext fun k => type_at m c k j
  rw [ht]
  have hf : (if l = 0 then if ¬Pad (m ((c : Thread nD τ).loc main_arg0) (ix2 (seq t p) 0)) then cls (inputs m c) (seq t p) j else 0 else 0)
      = if l = 0 then if ¬Pad (m ((c : Thread nD τ).loc main_arg0) (ix2 (seq t p) l)) then cls (inputs m c) (seq t p) j else 0 else 0 := by
    by_cases h : l = 0
    · rw [h]
    · rw [if_neg h, if_neg h]
  rw [hf]
  exact kernel_entry _ _ _ hid hst _ _ _ _ _ _ _ _ _ _ _ h0 h1 h2 h3 h4

end Cert.Proof.KernelValue

end
-- ==== Proof.Precondition.lean ====
/- The precondition, read off the arrays: what the fifteen tests of `setup` say of the kernel's arguments. -/
module

public import proofs.«01_k».proof.Defs
public import proofs.«01_k».proof.Proof.KernelValue
public import Idealize.ShloMosaic.Lib.IdealHost

@[expose] public section

set_option maxRecDepth 16384

noncomputable section

namespace Cert.Proof.Precondition

open Idealize.ShloMosaic Idealize.ShloMosaic.TcCoe Cert.Proof.Words Cert.Proof.Spec Cert.Proof.KernelValue

/-- The shape relations the precondition's broadcasts take: a scalar spreads over any shape. -/
theorem setup_facts : Cert.Pre_setup.Facts where
  bcast_S_S1024x200 := by decide
  bcast_S_S1024x200x32 := by decide
  bcast_S_S1024x200x16 := by decide
  bcast_S_S32x256 := by decide
  bcast_S_S16x256 := by decide
  bcast_S_S256 := by decide

/-- A number whose magnitude is below infinity is finite. -/
theorem fin_of {x : EReal} (h : Ideal.cmp .olt (max x (-x)) (Ideal.ofBits .f32 0x7F800000#32) = 1#1) : Fin' x := by
  have ht : Ideal.ofBits .f32 0x7F800000#32 = ⊤ := by simp [Ideal.ofBits, Ideal.ieee]
  rw [ht] at h
  have hlt : max x (-x) < ⊤ := of_decide_eq_true ((ofBool_one _).mp h)
  refine ⟨fun e => ?_, fun e => ?_⟩ <;> · rw [e] at hlt; simp at hlt

/-- A number that tests equal to the word of zero is zero, -/
theorem zero_of {x : EReal} (h : Ideal.cmp .oeq x (Ideal.ofBits .f32 0x00000000#32) = 1#1) : x = 0 :=
  (of_decide_eq_true ((ofBool_one _).mp h)).trans Ideal.ofBits_zero_f32

/-- and one that tests equal to the word of one is one. -/
theorem one_of {x : EReal} (h : Ideal.cmp .oeq x (Ideal.ofBits .f32 0x3F800000#32) = 1#1) : x = 1 :=
  (of_decide_eq_true ((ofBool_one _).mp h)).trans Ideal.ofBits_one_f32

/-- A word at least 0 and below 4, as signed numbers, is a number below 4. -/
theorem street_of {x : BitVec 32} (h : IntOp.andi (IntOp.cmpi .sge x 0#32) (IntOp.cmpi .slt x 4#32) = 1#1) : x.toNat < 4 := by
  obtain ⟨h0, h4⟩ := (andi_one _ _).mp h
  have e0 : (0#32 : BitVec 32).toInt ≤ x.toInt := (sge_one _ _).mp h0
  have e4 : x.toInt < (4#32 : BitVec 32).toInt := (slt_one _ _).mp h4
  rw [show (0#32 : BitVec 32).toInt = 0 by decide] at e0
  rw [show (4#32 : BitVec 32).toInt = 4 by decide] at e4
  rw [BitVec.toInt_eq_toNat_cond] at e0 e4
  have := x.isLt
  split at e0 <;> split at e4 <;> omega

variable (m : (ℓ : Loc Cert.KernelIdeal.nD Cert.KernelIdeal.τ Cert.KernelIdeal.sig) → Buf (Elt Ideal) ℓ)

/-- Where the precondition holds, every device's arrays are in the domain of the claim. -/
theorem good (h : Cert.Pre_KernelIdeal_setup (hPre_setup := setup_facts) m) (c : Dev Cert.KernelIdeal.nD) : (inputs m c).Good := by
  obtain ⟨h1, h2, h3, h4, h5, h6, h7, h8, h9, h10, h11, h12, h13, h14, h15⟩ := h c
  exact
    { ids := fun i => (sle_one _ _).mp (congrFun h1 i)
      streets := fun i => street_of (congrFun h2 i)
      masks := fun i => fin_of (congrFun h3 i)
      context := fun i => fin_of (congrFun h4 i)
      legalW := fun i => fin_of (congrFun h5 i)
      ctxW := fun i => fin_of (congrFun h6 i)
      legalB := fun i => zero_of (congrFun h7 i)
      legalG := fun i => one_of (congrFun h8 i)
      legalBeta := fun i => zero_of (congrFun h9 i)
      clsB := fun i => zero_of (congrFun h10 i)
      clsG := fun i => one_of (congrFun h11 i)
      clsBeta := fun i => zero_of (congrFun h12 i)
      ctxB := fun i => zero_of (congrFun h13 i)
      ctxG := fun i => one_of (congrFun h14 i)
      ctxBeta := fun i => zero_of (congrFun h15 i) }

end Cert.Proof.Precondition

end
-- ==== Proof.RefOps.lean ====
/- Three operations of the reference whose element is found by the operands' values: a table's rows taken at an array of
   words, as `jnp.take` prints it, and one row of a matrix per sequence added at position zero. -/
module

public import proofs.«01_k».proof.Proof.Token
public import proofs.«01_k».proof.Proof.Gen.ReferenceIdeal.Read
public import Idealize.ShloMosaic.Lib.ReduceAll
public import Idealize.ShloMosaic.Lib.Routing.OpsPair

@[expose] public section

set_option maxRecDepth 16384

noncomputable section

namespace Cert.Proof.RefOps

open Idealize.ShloMosaic Idealize.ShloMosaic.ValueIdx Cert.ReferenceIdeal Cert.ReferenceIdeal.Gen Cert.Proof.Words Cert.Proof.Token

/-! ### Rows of a table -/

/-- The dimension numbers of `table[words]` for an `N`-row table. -/
def rows (N : ℕ) (wf : GatherDims.WF ⟨2, ![N, 256]⟩ S1024x200x1 S1024x200x256 [2] [0] [] [0] [] 2 ![1, 256]) :
    GatherDims ⟨2, ![N, 256]⟩ S1024x200x1 S1024x200x256 where
  offsetDims := [2]
  collapsedSliceDims := [0]
  operandBatchingDims := []
  startIndicesBatchingDims := []
  startIndexMap := [0]
  indexVectorDim := 2
  sliceSizes := ![1, 256]
  wf := wf

/-- Entry `(b, l, j)` is the table's at the row the word names, when it names one. -/
theorem rows_apply {α : Type} {N : ℕ} (wf : GatherDims.WF ⟨2, ![N, 256]⟩ S1024x200x1 S1024x200x256 [2] [0] [] [0] [] 2 ![1, 256])
    (T : (⟨2, ![N, 256]⟩ : Shape).Idx → α) (r : IVec S1024x200x1 32) (b : Fin 1024) (l : Fin 200) (j : Fin 256) (k : Fin N)
    (hk : (r (ix3 b l 0)).toInt = (k.val : ℤ)) : Host.gather (rows N wf) T r (ix3 b l j) = T (ix2 k j) := by
  unfold Host.gather
  refine congrArg T (funext fun a => Fin.ext ?_)
  match a with
  | ⟨0, _⟩ =>
    show (rows N wf).start (ix3 b l j) r 0 + (rows N wf).batchCoord (ix3 b l j) 0 + (rows N wf).offCoord (ix3 b l j) 0 = k.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (rows N wf).startIndexMap from List.mem_singleton.mpr rfl)]
    have hsi : (rows N wf).siIdx (ix3 b l j) ⟨List.idxOf (0 : Fin 2) (rows N wf).startIndexMap,
        List.idxOf_lt_length_iff.2 (List.mem_singleton.mpr rfl)⟩ = ix3 b l 0 := by
      funext q; refine Fin.ext ?_
      match q with
      | ⟨0, _⟩ => rfl
      | ⟨1, _⟩ => rfl
      | ⟨2, _⟩ => rfl
    rw [hsi, hk]
    have := k.isLt
    show min ((k.val : ℤ)).toNat (N - 1) + 0 + 0 = k.val
    omega
  | ⟨1, _⟩ =>
    show (rows N wf).start (ix3 b l j) r 1 + (rows N wf).batchCoord (ix3 b l j) 1 + (rows N wf).offCoord (ix3 b l j) 1 = j.val
    rw [GatherDims.batchCoord_eq_zero _ _ _ List.not_mem_nil]
    unfold GatherDims.start
    rw [dif_neg (show ¬(1 : Fin 2) ∈ (rows N wf).startIndexMap from fun h => by simpa using List.mem_singleton.mp h), Nat.add_zero, Nat.zero_add]
    rfl

/-- `jnp.take` of words that name rows: the wrap of a negative word and the test of the range change nothing. -/
theorem take_apply {N : ℕ} (hN : N < 2 ^ 31) (wf : GatherDims.WF ⟨2, ![N, 256]⟩ S1024x200x1 S1024x200x256 [2] [0] [] [0] [] 2 ![1, 256])
    (T : (⟨2, ![N, 256]⟩ : Shape).Idx → EReal) (w : IVec S1024x200 32) (r : IVec S1024x200x1 32) (v : IVec S1024x200x1 1)
    (c : IVec S_ 1) (hc : ∀ i, c i = 1#1) (nan : Vec Ideal S1024x200x256 .f32)
    (hw : ∀ b l, (w (ix2 b l)).toNat < N)
    (hr : ∀ b l q, r (ix3 b l q) = Scalar.select (IntOp.cmpi .slt (w (ix2 b l)) 0#32) (IntOp.addi (w (ix2 b l)) (BitVec.ofNat 32 N)) (w (ix2 b l)))
    (hv : ∀ i, v i = IntOp.andi (IntOp.cmpi .sge (r i) 0#32) (IntOp.cmpi .sle (r i) (BitVec.ofNat 32 (N - 1))))
    (m : IVec S1024x200x256 1) (hm : ∀ b l j, m (ix3 b l j) = Host.reduce IntOp.andi v c reducesTo_S1024x200x1_S1024x200_d2 h_S_ (ix2 b l))
    (b : Fin 1024) (l : Fin 200) (j : Fin 256) :
    Scalar.select (m (ix3 b l j)) (Host.gather (rows N wf) T r (ix3 b l j)) (nan (ix3 b l j))
      = pick (fun k => T (ix2 k j)) (w (ix2 b l)).toNat := by
  have hi : ∀ b l, (w (ix2 b l)).toInt = ((w (ix2 b l)).toNat : ℤ) := fun b l => by
    have h1 := hw b l
    have h2 := BitVec.toInt_eq_toNat_cond (w (ix2 b l))
    split_ifs at h2 <;> omega
  have h0 : (0#32 : BitVec 32).toInt = 0 := by decide
  have hr' : ∀ b l q, r (ix3 b l q) = w (ix2 b l) := fun b l q => by
    rw [hr, select_iff (slt_one _ _), h0, hi, if_neg (by omega)]
  have hn : (BitVec.ofNat 32 (N - 1)).toInt = ((N - 1 : ℕ) : ℤ) := by
    have h2 := BitVec.toInt_eq_toNat_cond (BitVec.ofNat 32 (N - 1))
    rw [BitVec.toNat_ofNat, Nat.mod_eq_of_lt (by omega)] at h2
    split_ifs at h2 <;> omega
  have hv' : ∀ b l q, v (ix3 b l q) = 1#1 := fun b l q => by
    rw [hv, hr', andi_one, sge_one, sle_one, hi, h0, hn]
    have := hw b l
    constructor <;> omega
  rw [hm, Host.reduce_andi_one _ _ _ _ _ (hc _) fun i => (congrArg v (eq_ix3 i)).trans (hv' (i 0) (i 1) (i 2)), pick_lt _ (hw b l)]
  exact rows_apply wf T r b l j ⟨_, hw b l⟩ (by rw [hr', hi])

/-! ### A row added at position zero -/

/-- A fold that applies one step, at the one place of the list where its test is met. -/
theorem foldl_once {α β : Type} [DecidableEq β] (L : List β) (hL : L.Nodup) (n0 : β) (hn : n0 ∈ L) (g : α → β → α) (a : α) :
    L.foldl (fun a n => if n = n0 then g a n else a) a = g a n0 := by
  have none : ∀ (L : List β) (a : α), n0 ∉ L → L.foldl (fun a n => if n = n0 then g a n else a) a = a := by
    intro L
    induction L with
    | nil => intros; rfl
    | cons x L ih =>
      intro a h
      rw [List.mem_cons, not_or] at h
      rw [List.foldl_cons, if_neg (fun e => h.1 e.symm)]
      exact ih a h.2
  induction L generalizing a with
  | nil => exact absurd hn List.not_mem_nil
  | cons x L ih =>
    rw [List.nodup_cons] at hL
    rw [List.foldl_cons]
    by_cases e : x = n0
    · subst e
      rw [if_pos rfl, none L _ hL.1]
    · rw [if_neg e]
      exact ih hL.2 ((List.mem_cons.mp hn).resolve_left fun h => e h.symm) a

/-- Where update `(p, q)` lands: sequence `p`, position zero, entry `q`. -/
theorem lands (z : IVec S1 32) (hz : ∀ i, z i = 0#32) (p : Fin 1024) (q : Fin 256) (b : Fin 1024) (l : Fin 200) (j : Fin 256) :
    scatter_S1024x200x256_S1_S1024x256_01_1_1_0.resultIdx? (ix2 p q) z = some (ix3 b l j) ↔ p = b ∧ l = 0 ∧ q = j := by
  rw [Routing.resultIdx?_eq_some]
  have s0 : scatter_S1024x200x256_S1_S1024x256_01_1_1_0.start (ix2 p q) z 0 = 0 := rfl
  have s2 : scatter_S1024x200x256_S1_S1024x256_01_1_1_0.start (ix2 p q) z 2 = 0 := rfl
  have s1 : scatter_S1024x200x256_S1_S1024x256_01_1_1_0.start (ix2 p q) z 1 = 0 := by
    unfold ScatterDims.start
    exact (dif_pos (List.mem_singleton.mpr rfl)).trans ((congrArg BitVec.toInt (hz _)).trans (by decide))
  have w0 : scatter_S1024x200x256_S1_S1024x256_01_1_1_0.window (ix2 p q) 0 = p.val := rfl
  have w1 : scatter_S1024x200x256_S1_S1024x256_01_1_1_0.window (ix2 p q) 1 = 0 := rfl
  have w2 : scatter_S1024x200x256_S1_S1024x256_01_1_1_0.window (ix2 p q) 2 = q.val := rfl
  constructor
  · intro h
    have h0 := h 0
    have h1 := h 1
    have h2 := h 2
    rw [s0, w0] at h0
    rw [s1, w1] at h1
    rw [s2, w2] at h2
    have e0 : (0 : ℤ) + p.val = b.val := h0
    have e1 : (0 : ℤ) + (0 : ℕ) = l.val := h1
    have e2 : (0 : ℤ) + q.val = j.val := h2
    exact ⟨Fin.ext (by omega), Fin.ext (by show l.val = 0; omega), Fin.ext (by omega)⟩
  · rintro ⟨rfl, rfl, rfl⟩ a
    match a with
    | ⟨0, _⟩ => show _ + ((ScatterDims.window _ _ 0 : ℕ) : ℤ) = _; rw [w0]; exact (congrArg (· + _) s0).trans (zero_add _)
    | ⟨1, _⟩ => show _ + ((ScatterDims.window _ _ 1 : ℕ) : ℤ) = _; rw [w1]; exact (congrArg (· + _) s1).trans (zero_add _)
    | ⟨2, _⟩ => show _ + ((ScatterDims.window _ _ 2 : ℕ) : ℤ) = _; rw [w2]; exact (congrArg (· + _) s2).trans (zero_add _)

/-- The scatter at an index: position zero takes the row's entry, the others keep theirs. -/
theorem scatter_apply (x : Vec Ideal S1024x200x256 .f32) (z : IVec S1 32) (hz : ∀ i, z i = 0#32) (y : Vec Ideal S1024x256 .f32)
    (b : Fin 1024) (l : Fin 200) (j : Fin 256) :
    Host.scatter scatter_S1024x200x256_S1_S1024x256_01_1_1_0 (FloatOps.addf (F := Ideal) (φ := .f32)) x z y (ix3 b l j)
      = (x (ix3 b l j) : EReal) + if l = 0 then (y (ix2 b j) : EReal) else 0 := by
  rw [Routing.scatter_at]
  by_cases hl : l = 0
  · have hs : ∀ n : Fin S1024x256.numel, scatter_S1024x200x256_S1_S1024x256_01_1_1_0.resultIdx? (S1024x256.rowMajor.symm n) z = some (ix3 b l j)
        ↔ n = S1024x256.rowMajor (ix2 b j) := fun n => by
      obtain ⟨i, rfl⟩ := S1024x256.rowMajor.surjective n
      rw [Equiv.symm_apply_apply, EmbeddingLike.apply_eq_iff_eq, eq_ix2 i]
      refine (lands z hz _ _ b l j).trans ⟨fun h => ?_, fun h => ⟨congrFun h 0, hl, congrFun h 1⟩⟩
      rw [h.1, h.2.2]
      rfl
    simp only [hs]
    rw [foldl_once _ (List.nodup_finRange _) _ (List.mem_finRange _), Equiv.symm_apply_apply, if_pos hl]
    rfl
  · have hs : ∀ n : Fin S1024x256.numel, ¬scatter_S1024x200x256_S1_S1024x256_01_1_1_0.resultIdx? (S1024x256.rowMajor.symm n) z = some (ix3 b l j) := fun n h => by
      rw [eq_ix2 (S1024x256.rowMajor.symm n)] at h
      exact hl ((lands z hz _ _ b l j).mp h).2.1
    simp only [hs, if_false, if_neg hl, add_zero]
    generalize List.finRange S1024x256.numel = L
    induction L with
    | nil => rfl
    | cons _ _ ih => exact ih

end Cert.Proof.RefOps

end
-- ==== Proof.RefTables.lean ====
/- The six tables' rows the reference takes, at an index: each is the table's entry at the row the token's word names. -/
module

public import proofs.«01_k».proof.Proof.RefOps

@[expose] public section

set_option maxRecDepth 16384

noncomputable section

namespace Cert.Proof.RefTables

open Idealize.ShloMosaic Idealize.ShloMosaic.ValueIdx Cert.ReferenceIdeal Cert.ReferenceIdeal.Gen Cert.ReferenceIdeal.Read Cert.Proof.Words
  Cert.Proof.Token Cert.Proof.RefOps

/-- Arrays of words. -/
abbrev W2 := (⟨S1024x200, .i32⟩ : BufTy).Contents (Elt Ideal)

variable (x0 x1 x2 x3 x4 : W2)

/-- The token's id, padding sent to the last row of the base table. -/
theorem padded_at (i : S1024x200.Idx) : val_main_v2 (F := Ideal) x0 i = if Pad (x0 i) then 92#32 else x0 i := by
  show Scalar.select (IntOp.cmpi .slt (x0 i) 0#32) 92#32 (x0 i) = _
  exact select_iff (slt_one _ _) _ _

/-- The four clipped words. -/
theorem rank_word (i : S1024x200.Idx) : val_main_v11 (F := Ideal) x2 i = clip 12#32 (x2 i) := rfl
/-- The suit looked up is the clipped suit. -/
theorem suit_word (i : S1024x200.Idx) : val_main_v12 (F := Ideal) x3 i = clip 3#32 (x3 i) := rfl
/-- The actor looked up is the clipped actor. -/
theorem actor_word (i : S1024x200.Idx) : val_main_v26 (F := Ideal) x4 i = clip 1#32 (x4 i) := rfl
/-- The bet looked up is the clipped distance of the id from the first action. -/
theorem type_word (i : S1024x200.Idx) :
    val_main_v29 (F := Ideal) x0 i = clip 31#32 (IntOp.subi (val_main_v2 (F := Ideal) x0 i) 60#32) := rfl

/-- A padded id names a row of the base table. -/
theorem padded_lt (hid : ∀ i, (x0 i).toInt ≤ 92) (b : Fin 1024) (l : Fin 200) : (val_main_v2 (F := Ideal) x0 (ix2 b l)).toNat < 93 := by
  have h := hid (ix2 b l)
  rw [padded_at]
  by_cases hp : Pad (x0 (ix2 b l))
  · rw [if_pos hp]; decide
  · rw [if_neg hp]
    unfold Pad at hp
    have h2 := BitVec.toInt_eq_toNat_cond (x0 (ix2 b l))
    split_ifs at h2 <;> omega

/-- The base row. -/
theorem base_at (hid : ∀ i, (x0 i).toInt ≤ 92) (T : (⟨S93x256, .f32⟩ : BufTy).Contents (Elt Ideal)) (b : Fin 1024) (l : Fin 200) (j : Fin 256) :
    val_main_v3 (F := Ideal) x0 T (ix3 b l j) = pick (fun k => T (ix2 k j)) (val_main_v2 (F := Ideal) x0 (ix2 b l)).toNat :=
  take_apply (N := 93) (by norm_num) gather_S93x256_S1024x200x1_S1024x200x256_2_0_n_n_0_2_1256_wf T (val_main_v2 (F := Ideal) x0) (val_main_call1_v5 (F := Ideal) x0)
    (val_main_call1_v11 (F := Ideal) x0) val_main_call1_c_3 (fun _ => rfl) val_main_call1_v15 (padded_lt x0 hid)
    (fun b l q => by rw [val_main_call1_v5_apply, show idx_main_call1_v5 (ix3 b l q) = ix2 b l from eq_ix2 _]; rfl)
    (fun _ => rfl) (val_main_call1_v14 (F := Ideal) x0)
    (fun b l j => by rw [val_main_call1_v14_apply, show idx_main_call1_v14 (ix3 b l j) = ix2 b l from eq_ix2 _]; rfl) b l j
/-- The street row. -/
theorem street_at (hst : ∀ i, (x1 i).toNat < 4) (T : (⟨S4x256, .f32⟩ : BufTy).Contents (Elt Ideal)) (b : Fin 1024) (l : Fin 200) (j : Fin 256) :
    val_main_v4 (F := Ideal) x1 T (ix3 b l j) = pick (fun k => T (ix2 k j)) (x1 (ix2 b l)).toNat :=
  take_apply (N := 4) (by norm_num) gather_S4x256_S1024x200x1_S1024x200x256_2_0_n_n_0_2_1256_wf T (x1) (val_main_call2_v5 (F := Ideal) x1)
    (val_main_call2_v11 (F := Ideal) x1) val_main_call2_c_3 (fun _ => rfl) val_main_call2_v15 (fun b l => hst _)
    (fun b l q => by rw [val_main_call2_v5_apply, show idx_main_call2_v5 (ix3 b l q) = ix2 b l from eq_ix2 _]; rfl)
    (fun _ => rfl) (val_main_call2_v14 (F := Ideal) x1)
    (fun b l j => by rw [val_main_call2_v14_apply, show idx_main_call2_v14 (ix3 b l j) = ix2 b l from eq_ix2 _]; rfl) b l j
/-- The rank row. -/
theorem rank_at (T : (⟨S13x256, .f32⟩ : BufTy).Contents (Elt Ideal)) (b : Fin 1024) (l : Fin 200) (j : Fin 256) :
    val_main_v13 (F := Ideal) x2 T (ix3 b l j) = pick (fun k => T (ix2 k j)) (val_main_v11 (F := Ideal) x2 (ix2 b l)).toNat :=
  take_apply (N := 13) (by norm_num) gather_S13x256_S1024x200x1_S1024x200x256_2_0_n_n_0_2_1256_wf T (val_main_v11 (F := Ideal) x2) (val_main_call5_v5 (F := Ideal) x2)
    (val_main_call5_v11 (F := Ideal) x2) val_main_call5_c_3 (fun _ => rfl) val_main_call5_v15 (fun b l => Nat.lt_succ_of_le (clip_le (n := 12) (by norm_num) _))
    (fun b l q => by rw [val_main_call5_v5_apply, show idx_main_call5_v5 (ix3 b l q) = ix2 b l from eq_ix2 _]; rfl)
    (fun _ => rfl) (val_main_call5_v14 (F := Ideal) x2)
    (fun b l j => by rw [val_main_call5_v14_apply, show idx_main_call5_v14 (ix3 b l j) = ix2 b l from eq_ix2 _]; rfl) b l j
/-- The suit row. -/
theorem suit_at (T : (⟨S4x256, .f32⟩ : BufTy).Contents (Elt Ideal)) (b : Fin 1024) (l : Fin 200) (j : Fin 256) :
    val_main_v14 (F := Ideal) x3 T (ix3 b l j) = pick (fun k => T (ix2 k j)) (val_main_v12 (F := Ideal) x3 (ix2 b l)).toNat :=
  take_apply (N := 4) (by norm_num) gather_S4x256_S1024x200x1_S1024x200x256_2_0_n_n_0_2_1256_wf T (val_main_v12 (F := Ideal) x3) (val_main_call6_v5 (F := Ideal) x3)
    (val_main_call6_v11 (F := Ideal) x3) val_main_call6_c_3 (fun _ => rfl) val_main_call6_v15 (fun b l => Nat.lt_succ_of_le (clip_le (n := 3) (by norm_num) _))
    (fun b l q => by rw [val_main_call6_v5_apply, show idx_main_call6_v5 (ix3 b l q) = ix2 b l from eq_ix2 _]; rfl)
    (fun _ => rfl) (val_main_call6_v14 (F := Ideal) x3)
    (fun b l j => by rw [val_main_call6_v14_apply, show idx_main_call6_v14 (ix3 b l j) = ix2 b l from eq_ix2 _]; rfl) b l j
/-- The actor row. -/
theorem actor_at (T : (⟨S2x256, .f32⟩ : BufTy).Contents (Elt Ideal)) (b : Fin 1024) (l : Fin 200) (j : Fin 256) :
    val_main_v30 (F := Ideal) x4 T (ix3 b l j) = pick (fun k => T (ix2 k j)) (val_main_v26 (F := Ideal) x4 (ix2 b l)).toNat :=
  take_apply (N := 2) (by norm_num) gather_S2x256_S1024x200x1_S1024x200x256_2_0_n_n_0_2_1256_wf T (val_main_v26 (F := Ideal) x4) (val_main_call9_v5 (F := Ideal) x4)
    (val_main_call9_v11 (F := Ideal) x4) val_main_call9_c_3 (fun _ => rfl) val_main_call9_v15 (fun b l => Nat.lt_succ_of_le (clip_le (n := 1) (by norm_num) _))
    (fun b l q => by rw [val_main_call9_v5_apply, show idx_main_call9_v5 (ix3 b l q) = ix2 b l from eq_ix2 _]; rfl)
    (fun _ => rfl) (val_main_call9_v14 (F := Ideal) x4)
    (fun b l j => by rw [val_main_call9_v14_apply, show idx_main_call9_v14 (ix3 b l j) = ix2 b l from eq_ix2 _]; rfl) b l j
/-- The action type's row. -/
theorem type_at (T : (⟨S32x256, .f32⟩ : BufTy).Contents (Elt Ideal)) (b : Fin 1024) (l : Fin 200) (j : Fin 256) :
    val_main_v31 (F := Ideal) x0 T (ix3 b l j) = pick (fun k => T (ix2 k j)) (val_main_v29 (F := Ideal) x0 (ix2 b l)).toNat :=
  take_apply (N := 32) (by norm_num) gather_S32x256_S1024x200x1_S1024x200x256_2_0_n_n_0_2_1256_wf T (val_main_v29 (F := Ideal) x0) (val_main_call10_v5 (F := Ideal) x0)
    (val_main_call10_v11 (F := Ideal) x0) val_main_call10_c_3 (fun _ => rfl) val_main_call10_v15 (fun b l => Nat.lt_succ_of_le (clip_le (n := 31) (by norm_num) _))
    (fun b l q => by rw [val_main_call10_v5_apply, show idx_main_call10_v5 (ix3 b l q) = ix2 b l from eq_ix2 _]; rfl)
    (fun _ => rfl) (val_main_call10_v14 (F := Ideal) x0)
    (fun b l j => by rw [val_main_call10_v14_apply, show idx_main_call10_v14 (ix3 b l j) = ix2 b l from eq_ix2 _]; rfl) b l j

end Cert.Proof.RefTables

end
-- ==== Proof.RefNorm.lean ====
/- The three projections of the reference, at an index: with the biases zero, the gains one and the offsets zero, each is the
   layer norm of the projected row, rectified. -/
module

public import proofs.«01_k».proof.Proof.RefOps
public import proofs.«01_k».proof.Proof.LayerNorm

@[expose] public section

set_option maxRecDepth 16384

noncomputable section

namespace Cert.Proof.RefNorm

open Idealize.ShloMosaic Idealize.ShloMosaic.ValueIdx Cert.ReferenceIdeal Cert.ReferenceIdeal.Gen Cert.ReferenceIdeal.Read Cert.Proof.LN
open scoped BigOperators

/-- The word of the number zero. -/
theorem zero_word : Ideal.ofBits .f32 0x00000000#32 = 0 := by simp [Ideal.ofBits, Ideal.ieee]

/-- A mean as the reference prints it: a sum from the zero word, divided by the word of 256. -/
theorem mean_eq (y : Fin 256 → EReal) : Ideal.div (Ideal.ofBits .f32 0x00000000#32 + ∑ k, y k) (Ideal.ofBits .f32 0x43800000#32) = mean y := by
  rw [zero_word, zero_add]; rfl

/-- Vectors of 256 numbers. -/
abbrev V256 := (⟨S256, .f32⟩ : BufTy).Contents (Elt Ideal)

/-- The projection of the legal mask. -/
theorem legal_at (X : (⟨S1024x200x32, .f32⟩ : BufTy).Contents (Elt Ideal)) (W : (⟨S32x256, .f32⟩ : BufTy).Contents (Elt Ideal)) (B G E : V256)
    (hB : ∀ i, B i = (0 : EReal)) (hG : ∀ i, G i = (1 : EReal)) (hE : ∀ i, E i = (0 : EReal)) (b : Fin 1024) (l : Fin 200) (j : Fin 256) :
    val_main_v61 (F := Ideal) X W B G E (ix3 b l j) = lnRelu (proj (fun k : Fin 32 => X (ix3 b l k)) (fun k i => W (ix2 k i))) j := by
  have hy : ∀ i, val_main_v36 (F := Ideal) X W B (ix3 b l i) = proj (fun k : Fin 32 => X (ix3 b l k)) (fun k i => W (ix2 k i)) i := fun i => by
    rw [val_main_v36_apply, val_main_v35_apply, val_main_v34_apply, hB, val_main_v33_apply]
    refine (add_zero _).trans (Finset.sum_congr rfl fun k _ => ?_)
    rw [show lidx_main_v33 (ix3 b l i) k = ix3 b l k from eq_ix3 _, show ridx_main_v33 (ix3 b l i) k = ix2 k i from eq_ix2 _]
  generalize proj (fun k : Fin 32 => X (ix3 b l k)) (fun k i => W (ix2 k i)) = y at hy ⊢
  have hm : ∀ q, val_main_v40 (F := Ideal) X W B (ix3 b l q) = mean y := fun q => by
    rw [← mean_eq, val_main_v40_apply, val_main_v38_apply, show idx_main_v38 (ix3 b l q) = ix2 b l from eq_ix2 _, val_main_v37_apply]
    simp only [show ∀ k, idx_main_v37 (ix2 b l) k = ix3 b l k from fun k => eq_ix3 _, hy]
    rfl
  have hd : ∀ i, val_main_v42 (F := Ideal) X W B (ix3 b l i) = y i - mean y := fun i => by
    rw [val_main_v42_apply, val_main_v41_apply, show idx_main_v41 (ix3 b l i) = ix3 b l 0 from eq_ix3 _, hm, hy]
    rfl
  have hv : ∀ q, val_main_v47 (F := Ideal) X W B (ix3 b l q) = mean (fun i => (y i - mean y) * (y i - mean y)) := fun q => by
    rw [← mean_eq, val_main_v47_apply, val_main_v45_apply, show idx_main_v45 (ix3 b l q) = ix2 b l from eq_ix2 _, val_main_v44_apply]
    simp only [show ∀ k, idx_main_v44 (ix2 b l) k = ix3 b l k from fun k => eq_ix3 _, val_main_v43_apply, hd]
    rfl
  rw [val_main_v61_apply, val_main_v60_apply, val_main_v59_apply, val_main_v58_apply, hE, val_main_v57_apply, val_main_v56_apply, val_main_v55_apply, hG, val_main_v54_apply, val_main_v49_apply,
    val_main_v48_apply, show idx_main_v48 (ix3 b l j) = ix3 b l 0 from eq_ix3 _, hm, hy, val_main_v53_apply, show idx_main_v53 (ix3 b l j) = ix3 b l 0 from eq_ix3 _,
    val_main_v52_apply, val_main_v51_apply, hv]
  show max (Ideal.div (y j - mean y) (Ideal.sqrt (_ + eps)) * 1 + 0) (Ideal.ofBits .f32 0x00000000#32) = _
  rw [mul_one, add_zero, zero_word]
  rfl

/-- The projection of the context features. -/
theorem ctx_at (X : (⟨S1024x200x16, .f32⟩ : BufTy).Contents (Elt Ideal)) (W : (⟨S16x256, .f32⟩ : BufTy).Contents (Elt Ideal)) (B G E : V256)
    (hB : ∀ i, B i = (0 : EReal)) (hG : ∀ i, G i = (1 : EReal)) (hE : ∀ i, E i = (0 : EReal)) (b : Fin 1024) (l : Fin 200) (j : Fin 256) :
    val_main_v131 (F := Ideal) X W B G E (ix3 b l j) = lnRelu (proj (fun k : Fin 16 => X (ix3 b l k)) (fun k i => W (ix2 k i))) j := by
  have hy : ∀ i, val_main_v106 (F := Ideal) X W B (ix3 b l i) = proj (fun k : Fin 16 => X (ix3 b l k)) (fun k i => W (ix2 k i)) i := fun i => by
    rw [val_main_v106_apply, val_main_v105_apply, val_main_v104_apply, hB, val_main_v103_apply]
    refine (add_zero _).trans (Finset.sum_congr rfl fun k _ => ?_)
    rw [show lidx_main_v103 (ix3 b l i) k = ix3 b l k from eq_ix3 _, show ridx_main_v103 (ix3 b l i) k = ix2 k i from eq_ix2 _]
  generalize proj (fun k : Fin 16 => X (ix3 b l k)) (fun k i => W (ix2 k i)) = y at hy ⊢
  have hm : ∀ q, val_main_v110 (F := Ideal) X W B (ix3 b l q) = mean y := fun q => by
    rw [← mean_eq, val_main_v110_apply, val_main_v108_apply, show idx_main_v108 (ix3 b l q) = ix2 b l from eq_ix2 _, val_main_v107_apply]
    simp only [show ∀ k, idx_main_v107 (ix2 b l) k = ix3 b l k from fun k => eq_ix3 _, hy]
    rfl
  have hd : ∀ i, val_main_v112 (F := Ideal) X W B (ix3 b l i) = y i - mean y := fun i => by
    rw [val_main_v112_apply, val_main_v111_apply, show idx_main_v111 (ix3 b l i) = ix3 b l 0 from eq_ix3 _, hm, hy]
    rfl
  have hv : ∀ q, val_main_v117 (F := Ideal) X W B (ix3 b l q) = mean (fun i => (y i - mean y) * (y i - mean y)) := fun q => by
    rw [← mean_eq, val_main_v117_apply, val_main_v115_apply, show idx_main_v115 (ix3 b l q) = ix2 b l from eq_ix2 _, val_main_v114_apply]
    simp only [show ∀ k, idx_main_v114 (ix2 b l) k = ix3 b l k from fun k => eq_ix3 _, val_main_v113_apply, hd]
    rfl
  rw [val_main_v131_apply, val_main_v130_apply, val_main_v129_apply, val_main_v128_apply, hE, val_main_v127_apply, val_main_v126_apply, val_main_v125_apply, hG, val_main_v124_apply, val_main_v119_apply,
    val_main_v118_apply, show idx_main_v118 (ix3 b l j) = ix3 b l 0 from eq_ix3 _, hm, hy, val_main_v123_apply, show idx_main_v123 (ix3 b l j) = ix3 b l 0 from eq_ix3 _,
    val_main_v122_apply, val_main_v121_apply, hv]
  show max (Ideal.div (y j - mean y) (Ideal.sqrt (_ + eps)) * 1 + 0) (Ideal.ofBits .f32 0x00000000#32) = _
  rw [mul_one, add_zero, zero_word]
  rfl

/-- The projection of the first context's first three features. -/
theorem cls_at (X : (⟨S1024x200x16, .f32⟩ : BufTy).Contents (Elt Ideal)) (W : (⟨S3x256, .f32⟩ : BufTy).Contents (Elt Ideal)) (B G E : V256)
    (hB : ∀ i, B i = (0 : EReal)) (hG : ∀ i, G i = (1 : EReal)) (hE : ∀ i, E i = (0 : EReal)) (b : Fin 1024) (j : Fin 256) :
    val_main_v98 (F := Ideal) X W B G E (ix2 b j)
      = lnRelu (proj (fun k : Fin 3 => X (ix3 b 0 ⟨k.val, by omega⟩)) (fun k i => W (ix2 k i))) j := by
  have hx : ∀ k : Fin 3, val_main_v69 (F := Ideal) X (ix2 b k) = X (ix3 b 0 ⟨k.val, by omega⟩) := fun k => by
    rw [val_main_v69_apply, val_main_v68_apply]
    refine congrArg X (funext fun a => Fin.ext ?_)
    have hk := k.isLt
    match a with
    | ⟨0, _⟩ => show (b.val * 3 + k.val) / 3 = b.val; omega
    | ⟨1, _⟩ => rfl
    | ⟨2, _⟩ => show (b.val * 3 + k.val) % 3 = k.val; omega
  have hy : ∀ i, val_main_v73 (F := Ideal) X W B (ix2 b i) = proj (fun k : Fin 3 => X (ix3 b 0 ⟨k.val, by omega⟩)) (fun k i => W (ix2 k i)) i := fun i => by
    rw [val_main_v73_apply, val_main_v72_apply, val_main_v71_apply, hB, val_main_v70_apply]
    refine (add_zero _).trans (Finset.sum_congr rfl fun k _ => ?_)
    rw [show lidx_main_v70 (ix2 b i) k = ix2 b k from eq_ix2 _, show ridx_main_v70 (ix2 b i) k = ix2 k i from eq_ix2 _, hx]
  generalize proj (fun k : Fin 3 => X (ix3 b 0 ⟨k.val, by omega⟩)) (fun k i => W (ix2 k i)) = y at hy ⊢
  have hm : ∀ q, val_main_v77 (F := Ideal) X W B (ix2 b q) = mean y := fun q => by
    rw [← mean_eq, val_main_v77_apply, val_main_v75_apply, show idx_main_v75 (ix2 b q) = ix1 b from eq_ix1 _, val_main_v74_apply]
    simp only [show ∀ k, idx_main_v74 (ix1 b) k = ix2 b k from fun k => eq_ix2 _, hy]
    rfl
  have hd : ∀ i, val_main_v79 (F := Ideal) X W B (ix2 b i) = y i - mean y := fun i => by
    rw [val_main_v79_apply, val_main_v78_apply, show idx_main_v78 (ix2 b i) = ix2 b 0 from eq_ix2 _, hm, hy]
    rfl
  have hv : ∀ q, val_main_v84 (F := Ideal) X W B (ix2 b q) = mean (fun i => (y i - mean y) * (y i - mean y)) := fun q => by
    rw [← mean_eq, val_main_v84_apply, val_main_v82_apply, show idx_main_v82 (ix2 b q) = ix1 b from eq_ix1 _, val_main_v81_apply]
    simp only [show ∀ k, idx_main_v81 (ix1 b) k = ix2 b k from fun k => eq_ix2 _, val_main_v80_apply, hd]
    rfl
  rw [val_main_v98_apply, val_main_v97_apply, val_main_v96_apply, val_main_v95_apply, hE, val_main_v94_apply, val_main_v93_apply, val_main_v92_apply, hG, val_main_v91_apply, val_main_v86_apply,
    val_main_v85_apply, show idx_main_v85 (ix2 b j) = ix2 b 0 from eq_ix2 _, hm, hy, val_main_v90_apply, show idx_main_v90 (ix2 b j) = ix2 b 0 from eq_ix2 _,
    val_main_v89_apply, val_main_v88_apply, hv]
  show max (Ideal.div (y j - mean y) (Ideal.sqrt (_ + eps)) * 1 + 0) (Ideal.ofBits .f32 0x00000000#32) = _
  rw [mul_one, add_zero, zero_word]
  rfl

end Cert.Proof.RefNorm

end
-- ==== Proof.RefValue.lean ====
/- What the reference computes, at an index: the entry of the embedding. -/
module

public import proofs.«01_k».proof.Proof.RefTables
public import proofs.«01_k».proof.Proof.RefNorm
public import proofs.«01_k».proof.Proof.Spec

@[expose] public section

set_option maxRecDepth 16384

noncomputable section

namespace Cert.Proof.RefValue

open Idealize.ShloMosaic Cert.ReferenceIdeal Cert.ReferenceIdeal.Gen Cert.ReferenceIdeal.Read Cert.Proof.Words Cert.Proof.Token Cert.Proof.LN
  Cert.Proof.RefTables Cert.Proof.Spec

/-- A test converted to a number: one where it is met, zero elsewhere. -/
theorem uitofp_bit {b : BitVec 1} {p : Prop} [Decidable p] (h : b = 1#1 ↔ p) :
    (FloatOps.uitofp (F := Ideal) .f32 b : EReal) = if p then 1 else 0 := by
  show ((b.toNat : ℝ) : EReal) = _
  by_cases hp : p
  · rw [if_pos hp, h.mpr hp]; simp
  · rw [if_neg hp, ValueIdx.eq_zero_of_ne_one (fun e => hp (h.mp e))]; simp

variable (x0 : W2)

/-- The three masks, spread over the entries. -/
theorem card_mask (b : Fin 1024) (l : Fin 200) (j : Fin 256) :
    (val_main_v18 (F := Ideal) x0 (ValueIdx.ix3 b l j) : EReal) = if Card (val_main_v2 (F := Ideal) x0 (ValueIdx.ix2 b l)) then 1 else 0 := by
  rw [val_main_v18_apply, val_main_v17_apply, val_main_v16_apply, show idx_main_v16 (idx_main_v18 (ValueIdx.ix3 b l j)) = ValueIdx.ix2 b l from ValueIdx.eq_ix2 _]
  refine uitofp_bit ((andi_one _ _).trans ?_)
  exact and_congr (sge_one _ _) (slt_one _ _)
/-- The mask of the action tokens, spread over the entries. -/
theorem act_mask (b : Fin 1024) (l : Fin 200) (j : Fin 256) :
    (val_main_v65 (F := Ideal) x0 (ValueIdx.ix3 b l j) : EReal) = if Act (val_main_v2 (F := Ideal) x0 (ValueIdx.ix2 b l)) then 1 else 0 := by
  rw [val_main_v65_apply, val_main_v64_apply, val_main_v63_apply, show idx_main_v63 (idx_main_v65 (ValueIdx.ix3 b l j)) = ValueIdx.ix2 b l from ValueIdx.eq_ix2 _]
  refine uitofp_bit ((andi_one _ _).trans ?_)
  exact and_congr (sge_one _ _) (slt_one _ _)
/-- The mask of the context tokens, spread over the entries. -/
theorem context_mask (b : Fin 1024) (l : Fin 200) (j : Fin 256) :
    (val_main_v134 (F := Ideal) x0 (ValueIdx.ix3 b l j) : EReal) = if val_main_v2 (F := Ideal) x0 (ValueIdx.ix2 b l) = 1#32 then 1 else 0 := by
  rw [val_main_v134_apply, val_main_v133_apply, val_main_v132_apply, show idx_main_v132 (idx_main_v134 (ValueIdx.ix3 b l j)) = ValueIdx.ix2 b l from ValueIdx.eq_ix2 _]
  exact uitofp_bit (eq_one _ _)

/-- A masked term is the term where the mask holds. -/
theorem masked (p : Prop) [Decidable p] (t : EReal) : (if p then (1 : EReal) else 0) * t = if p then t else 0 := by
  by_cases h : p
  · rw [if_pos h, if_pos h, one_mul]
  · rw [if_neg h, if_neg h, zero_mul]

/-- **The reference's array, at an index.** -/
theorem value_at (I : Inputs) (hg : I.Good) (b : Fin 1024) (l : Fin 200) (j : Fin 256) :
    val_main_v138 (F := Ideal) I.ids I.streets I.ranks I.suits I.actors I.masks I.context I.base I.street I.rank I.suit I.actor I.type
        I.legalW I.legalB I.legalG I.legalBeta I.clsW I.clsB I.clsG I.clsBeta I.ctxW I.ctxB I.ctxG I.ctxBeta (ix3 b l j)
      = embed I b l j := by
  unfold embed entry legal ctx cls
  simp only [ix3_eq_valueIdx, ix2_eq_valueIdx]
  rw [val_main_v138_apply, val_main_call14_v1_apply, val_main_v137_apply,
    show idx_main_v137 (idx_main_call14_v1 (ValueIdx.ix3 b l j)) = ValueIdx.ix2 b l from ValueIdx.eq_ix2 _]
  refine (select_iff (slt_one _ _) _ _).trans ?_
  have hp : val_main_v2 (F := Ideal) I.ids (ValueIdx.ix2 b l) = if Pad (I.ids (ValueIdx.ix2 b l)) then 92#32 else I.ids (ValueIdx.ix2 b l) := padded_at _ _
  by_cases h : Pad (I.ids (ValueIdx.ix2 b l))
  · rw [if_pos h]
    refine (if_pos h).trans ?_
    exact RefNorm.zero_word
  · rw [if_neg h]
    refine (if_neg h).trans ?_
    rw [if_neg h] at hp
    rw [val_main_v136_apply, val_main_v135_apply, context_mask, hp, RefNorm.ctx_at _ _ _ _ _ hg.ctxB hg.ctxG hg.ctxBeta]
    unfold val_main_v100
    rw [RefOps.scatter_apply _ (val_main_v99 (F := Ideal)) (fun _ => rfl), val_main_v67_apply, val_main_v66_apply, act_mask, hp, val_main_v62_apply, val_main_v32_apply,
      actor_at, type_at, RefNorm.legal_at _ _ _ _ _ hg.legalB hg.legalG hg.legalBeta, val_main_v20_apply, val_main_v19_apply, card_mask, hp,
      val_main_v15_apply, rank_at, suit_at, val_main_v5_apply, base_at _ hg.ids, street_at _ hg.streets,
      RefNorm.cls_at _ _ _ _ _ hg.clsB hg.clsG hg.clsBeta, rank_word, suit_word, actor_word, type_word, hp]
    show _ + _ + (if _ then (1 : EReal) else 0) * (_ + _) + (if _ then (1 : EReal) else 0) * (_ + _ + _) + _ + (if _ then (1 : EReal) else 0) * _ = _
    rw [masked, masked, masked]

end Cert.Proof.RefValue

end
-- ==== Proof.Equation.lean ====
/- The equation: both programs end with the same array, the embedding of the arguments. -/
module

public import proofs.«01_k».proof.Proof.Precondition
public import proofs.«01_k».proof.Proof.RefValue

@[expose] public section

set_option maxRecDepth 16384

noncomputable section

namespace Cert.Proof.Equation

open Idealize.ShloMosaic Idealize.SL.Sem Cert.Proof.Spec Cert.Proof.KernelValue

variable (m : (ℓ : Loc Cert.KernelIdeal.nD Cert.KernelIdeal.τ Cert.KernelIdeal.sig) → Buf (Elt Ideal) ℓ)

/-- The embedding of every token of every sequence, as an array of numbers. -/
def result (c : Dev Cert.KernelIdeal.nD) : Reals3 1024 200 256 := fun i => embed (inputs m c) (i 0) (i 1) (i 2)

/-- The kernel's result array is the embedding, -/
theorem kernel_eq (c : Dev Cert.KernelIdeal.nD) (hg : (inputs m c).Good) :
    (Cert.KernelIdeal.Gen.dats m 0 c).arrAt 15 Cert.KernelIdeal.cfg0.N = result m c := by
  funext i
  exact (congrArg _ (eq_ix3 i)).trans (arr_at m c hg (i 0) (i 1) (i 2))

/-- and so is the reference's. -/
theorem reference_eq (I : Inputs) (hg : I.Good) :
    Cert.ReferenceIdeal.Read.val_main_v138 (F := Ideal) I.ids I.streets I.ranks I.suits I.actors I.masks I.context I.base I.street I.rank
        I.suit I.actor I.type I.legalW I.legalB I.legalG I.legalBeta I.clsW I.clsB I.clsG I.clsBeta I.ctxW I.ctxB I.ctxG I.ctxBeta
      = fun i => embed I (i 0) (i 1) (i 2) := by
  funext i
  exact (congrArg _ (eq_ix3 i)).trans (RefValue.value_at I hg (i 0) (i 1) (i 2))

/-- The reference's argument arrays. -/
def refInputs (m' : (ℓ : Loc Cert.ReferenceIdeal.nD Cert.ReferenceIdeal.τ Cert.ReferenceIdeal.sig) → Buf (Elt Ideal) ℓ)
    (c : Dev Cert.ReferenceIdeal.nD) : Inputs where
  ids := m' ((c.tc : Thread Cert.ReferenceIdeal.nD Cert.ReferenceIdeal.τ).loc Cert.ReferenceIdeal.main_arg0)
  streets := m' ((c.tc : Thread Cert.ReferenceIdeal.nD Cert.ReferenceIdeal.τ).loc Cert.ReferenceIdeal.main_arg1)
  ranks := m' ((c.tc : Thread Cert.ReferenceIdeal.nD Cert.ReferenceIdeal.τ).loc Cert.ReferenceIdeal.main_arg2)
  suits := m' ((c.tc : Thread Cert.ReferenceIdeal.nD Cert.ReferenceIdeal.τ).loc Cert.ReferenceIdeal.main_arg3)
  actors := m' ((c.tc : Thread Cert.ReferenceIdeal.nD Cert.ReferenceIdeal.τ).loc Cert.ReferenceIdeal.main_arg4)
  masks := m' ((c.tc : Thread Cert.ReferenceIdeal.nD Cert.ReferenceIdeal.τ).loc Cert.ReferenceIdeal.main_arg5)
  context := m' ((c.tc : Thread Cert.ReferenceIdeal.nD Cert.ReferenceIdeal.τ).loc Cert.ReferenceIdeal.main_arg6)
  base := m' ((c.tc : Thread Cert.ReferenceIdeal.nD Cert.ReferenceIdeal.τ).loc Cert.ReferenceIdeal.main_arg7)
  street := m' ((c.tc : Thread Cert.ReferenceIdeal.nD Cert.ReferenceIdeal.τ).loc Cert.ReferenceIdeal.main_arg8)
  rank := m' ((c.tc : Thread Cert.ReferenceIdeal.nD Cert.ReferenceIdeal.τ).loc Cert.ReferenceIdeal.main_arg9)
  suit := m' ((c.tc : Thread Cert.ReferenceIdeal.nD Cert.ReferenceIdeal.τ).loc Cert.ReferenceIdeal.main_arg10)
  actor := m' ((c.tc : Thread Cert.ReferenceIdeal.nD Cert.ReferenceIdeal.τ).loc Cert.ReferenceIdeal.main_arg11)
  type := m' ((c.tc : Thread Cert.ReferenceIdeal.nD Cert.ReferenceIdeal.τ).loc Cert.ReferenceIdeal.main_arg12)
  legalW := m' ((c.tc : Thread Cert.ReferenceIdeal.nD Cert.ReferenceIdeal.τ).loc Cert.ReferenceIdeal.main_arg13)
  legalB := m' ((c.tc : Thread Cert.ReferenceIdeal.nD Cert.ReferenceIdeal.τ).loc Cert.ReferenceIdeal.main_arg14)
  legalG := m' ((c.tc : Thread Cert.ReferenceIdeal.nD Cert.ReferenceIdeal.τ).loc Cert.ReferenceIdeal.main_arg15)
  legalBeta := m' ((c.tc : Thread Cert.ReferenceIdeal.nD Cert.ReferenceIdeal.τ).loc Cert.ReferenceIdeal.main_arg16)
  clsW := m' ((c.tc : Thread Cert.ReferenceIdeal.nD Cert.ReferenceIdeal.τ).loc Cert.ReferenceIdeal.main_arg17)
  clsB := m' ((c.tc : Thread Cert.ReferenceIdeal.nD Cert.ReferenceIdeal.τ).loc Cert.ReferenceIdeal.main_arg18)
  clsG := m' ((c.tc : Thread Cert.ReferenceIdeal.nD Cert.ReferenceIdeal.τ).loc Cert.ReferenceIdeal.main_arg19)
  clsBeta := m' ((c.tc : Thread Cert.ReferenceIdeal.nD Cert.ReferenceIdeal.τ).loc Cert.ReferenceIdeal.main_arg20)
  ctxW := m' ((c.tc : Thread Cert.ReferenceIdeal.nD Cert.ReferenceIdeal.τ).loc Cert.ReferenceIdeal.main_arg21)
  ctxB := m' ((c.tc : Thread Cert.ReferenceIdeal.nD Cert.ReferenceIdeal.τ).loc Cert.ReferenceIdeal.main_arg22)
  ctxG := m' ((c.tc : Thread Cert.ReferenceIdeal.nD Cert.ReferenceIdeal.τ).loc Cert.ReferenceIdeal.main_arg23)
  ctxBeta := m' ((c.tc : Thread Cert.ReferenceIdeal.nD Cert.ReferenceIdeal.τ).loc Cert.ReferenceIdeal.main_arg24)

/-- From equal arguments that meet the precondition, the kernel and the reference end with equal results, the embedding, and
    with their arguments as they were. -/
theorem algebraic : Cert.algebraic_KernelIdeal_ReferenceIdeal_pre_setup (hKernelIdeal := Cert.KernelIdeal.Gen.facts)
    (hReferenceIdeal := Cert.ReferenceIdeal.Gen.facts) (hPre_setup := Precondition.setup_facts) := by
  intro m ρ m' ρ' hp hm
  refine ⟨result m, ?_, ?_⟩
  · exact (θ_run Cert.KernelIdeal.defs _ _).mono
      (fun r h c => ⟨(h c).1.trans (kernel_eq m c (Precondition.good m hp c)), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    have e : refInputs m' c = inputs m c := by
      simp only [refInputs, inputs, Inputs.mk.injEq]
      exact hm c
    have hg : (refInputs m' c).Good := e ▸ Precondition.good m hp c
    refine (Cert.ReferenceIdeal.Read.val_main_v138_eq (F := Ideal) (StableHlo.launchContents m' c)).trans ?_
    refine (reference_eq (refInputs m' c) hg).trans ?_
    rw [e]
    rfl

end Cert.Proof.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference ends from any memory with its arguments as they were and every counter at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The claims: each program's frame, the idealized kernel's text unchanged, and the equation of the two results. -/
theorem claim : Cert.Claim :=
  ⟨Cert.Kernel.Gen.facts, Cert.KernelIdeal.Gen.facts, Cert.ReferenceIdeal.Gen.facts, Precondition.setup_facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial, Equation.algebraic⟩

end Cert.Proof

end
